-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separable [hPre_separable : Cert.Pre_separable.Facts] (m : (ℓ : Loc Cert.KernelIdeal.nD Cert.KernelIdeal.τ Cert.KernelIdeal.sig) → Buf (Elt Ideal) ℓ) : Prop :=
  ∀ c : Dev Cert.KernelIdeal.nD,
    (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separable [hPre_separable : Cert.Pre_separable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_separable [hKernelIdeal : Cert.KernelIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_separable [hReferenceIdeal : Cert.ReferenceIdeal.Facts] [hPre_separable : Cert.Pre_separable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_separable [hKernelIdeal : Cert.KernelIdeal.Facts] [hReferenceIdeal : Cert.ReferenceIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_separable : Cert.Pre_separable.Facts),
    quiescent_Kernel (hKernel := hKernel)
    ∧ quiescent_KernelIdeal (hKernelIdeal := hKernelIdeal)
    ∧ quiescent_KernelIdeal_pre_separable (hKernelIdeal := hKernelIdeal) (hPre_separable := hPre_separable)
    ∧ quiescent_ReferenceIdeal (hReferenceIdeal := hReferenceIdeal)
    ∧ quiescent_ReferenceIdeal_pre_separable (hReferenceIdeal := hReferenceIdeal) (hPre_separable := hPre_separable)
    ∧ preserves_Kernel_KernelIdeal
    ∧ algebraic_KernelIdeal_ReferenceIdeal_pre_separable (hKernelIdeal := hKernelIdeal) (hReferenceIdeal := hReferenceIdeal) (hPre_separable := hPre_separable)
-- ==== Pre_separable.lean ====
abbrev S1x1x64x256x256 : Shape := ⟨5, ![1, 1, 64, 256, 256]⟩
abbrev S1x1x3x1x1 : Shape := ⟨5, ![1, 1, 3, 1, 1]⟩
abbrev S1x1x1x3x3 : Shape := ⟨5, ![1, 1, 1, 3, 3]⟩
abbrev S_ : Shape := ⟨0, ![]⟩
abbrev S3x3 : Shape := ⟨2, ![3, 3]⟩
abbrev S3x1x3x1 : Shape := ⟨4, ![3, 1, 3, 1]⟩
abbrev S1x3x1x3 : Shape := ⟨4, ![1, 3, 1, 3]⟩
abbrev S3x3x3x3 : Shape := ⟨4, ![3, 3, 3, 3]⟩

class Facts : Prop where
  bcast_S_S1x1x64x256x256 : S_.BroadcastsInDim S1x1x64x256x256 (![] : Fin 0 → Fin S1x1x64x256x256.rank)
  bcast_S_S1x1x3x1x1 : S_.BroadcastsInDim S1x1x3x1x1 (![] : Fin 0 → Fin S1x1x3x1x1.rank)
  bcast_S_S1x1x1x3x3 : S_.BroadcastsInDim S1x1x1x3x3 (![] : Fin 0 → Fin S1x1x1x3x3.rank)
  shapeCasts_S1x1x1x3x3_S3x3 : S1x1x1x3x3.ShapeCasts S3x3
  shapeCasts_S3x3_S3x1x3x1 : S3x3.ShapeCasts S3x1x3x1
  shapeCasts_S3x3_S1x3x1x3 : S3x3.ShapeCasts S1x3x1x3
  bcast_S3x1x3x1_S3x3x3x3_0_1_2_3 : S3x1x3x1.BroadcastsInDim S3x3x3x3 (![0, 1, 2, 3] : Fin 4 → Fin S3x3x3x3.rank)
  bcast_S1x3x1x3_S3x3x3x3_0_1_2_3 : S1x3x1x3.BroadcastsInDim S3x3x3x3 (![0, 1, 2, 3] : Fin 4 → Fin S3x3x3x3.rank)
  transposes_S3x3x3x3_S3x3x3x3_0_1_3_2 : S3x3x3x3.Transposes [0, 1, 3, 2] S3x3x3x3

variable [Facts]

def fn_part2 {F : FTy → Type} [FloatOps F] (main_arg6 : FVec F S1x1x1x3x3 .f32) (main_arg7 : FVec F S1x1x1x3x3 .f32) (main_v2 : IVec S1x1x64x256x256 1) (main_v5 : IVec S1x1x3x1x1 1) (main_v8 : IVec S1x1x3x1x1 1) (main_v11 : IVec S1x1x3x1x1 1) (main_v14 : IVec S1x1x1x3x3 1) (main_v17 : IVec S1x1x1x3x3 1) (main_v20 : IVec S1x1x1x3x3 1) (main_v23 : IVec S1x1x1x3x3 1) (main_v31 : IVec S3x3x3x3 1) (main_v39 : IVec S3x3x3x3 1) : IVec S1x1x64x256x256 1 × IVec S1x1x3x1x1 1 × IVec S1x1x3x1x1 1 × IVec S1x1x3x1x1 1 × IVec S1x1x1x3x3 1 × IVec S1x1x1x3x3 1 × IVec S1x1x1x3x3 1 × IVec S1x1x1x3x3 1 × IVec S3x3x3x3 1 × IVec S3x3x3x3 1 × IVec S3x3x3x3 1 × IVec S3x3x3x3 1 :=
  let main_v40 : FVec F S3x3 .f32 := shapeCast S3x3 main_arg6 shapeCasts_S1x1x1x3x3_S3x3
  let main_v41 : FVec F S3x1x3x1 .f32 := shapeCast S3x1x3x1 main_v40 shapeCasts_S3x3_S3x1x3x1
  let main_v42 : FVec F S1x3x1x3 .f32 := shapeCast S1x3x1x3 main_v40 shapeCasts_S3x3_S1x3x1x3
  let main_v43 : FVec F S3x3x3x3 .f32 := broadcastInDim S3x3x3x3 ![0, 1, 2, 3] bcast_S3x1x3x1_S3x3x3x3_0_1_2_3 main_v41
  let main_v44 : FVec F S3x3x3x3 .f32 := broadcastInDim S3x3x3x3 ![0, 1, 2, 3] bcast_S1x3x1x3_S3x3x3x3_0_1_2_3 main_v42
  let main_v45 : FVec F S3x3x3x3 .f32 := mulf main_v43 main_v44
  let main_v46 : FVec F S3x3x3x3 .f32 := (transpose S3x3x3x3 [0, 1, 3, 2] · transposes_S3x3x3x3_S3x3x3x3_0_1_3_2) main_v45
  let main_v47 : IVec S3x3x3x3 1 := cmpf .oeq main_v45 main_v46
  let main_v48 : FVec F S3x3 .f32 := shapeCast S3x3 main_arg7 shapeCasts_S1x1x1x3x3_S3x3
  let main_v49 : FVec F S3x1x3x1 .f32 := shapeCast S3x1x3x1 main_v48 shapeCasts_S3x3_S3x1x3x1
  let main_v50 : FVec F S1x3x1x3 .f32 := shapeCast S1x3x1x3 main_v48 shapeCasts_S3x3_S1x3x1x3
  let main_v51 : FVec F S3x3x3x3 .f32 := broadcastInDim S3x3x3x3 ![0, 1, 2, 3] bcast_S3x1x3x1_S3x3x3x3_0_1_2_3 main_v49
  let main_v52 : FVec F S3x3x3x3 .f32 := broadcastInDim S3x3x3x3 ![0, 1, 2, 3] bcast_S1x3x1x3_S3x3x3x3_0_1_2_3 main_v50
  let main_v53 : FVec F S3x3x3x3 .f32 := mulf main_v51 main_v52
  let main_v54 : FVec F S3x3x3x3 .f32 := (transpose S3x3x3x3 [0, 1, 3, 2] · transposes_S3x3x3x3_S3x3x3x3_0_1_3_2) main_v53
  let main_v55 : IVec S3x3x3x3 1 := cmpf .oeq main_v53 main_v54
  (main_v2, main_v5, main_v8, main_v11, main_v14, main_v17, main_v20, main_v23, main_v31, main_v39, main_v47, main_v55)

def fn_part1 {F : FTy → Type} [FloatOps F] (main_arg4 : FVec F S1x1x1x3x3 .f32) (main_arg5 : FVec F S1x1x1x3x3 .f32) (main_arg6 : FVec F S1x1x1x3x3 .f32) (main_arg7 : FVec F S1x1x1x3x3 .f32) (main_v2 : IVec S1x1x64x256x256 1) (main_v5 : IVec S1x1x3x1x1 1) (main_v8 : IVec S1x1x3x1x1 1) (main_v11 : IVec S1x1x3x1x1 1) (main_v14 : IVec S1x1x1x3x3 1) (main_v17 : IVec S1x1x1x3x3 1) : IVec S1x1x64x256x256 1 × IVec S1x1x3x1x1 1 × IVec S1x1x3x1x1 1 × IVec S1x1x3x1x1 1 × IVec S1x1x1x3x3 1 × IVec S1x1x1x3x3 1 × IVec S1x1x1x3x3 1 × IVec S1x1x1x3x3 1 × IVec S3x3x3x3 1 × IVec S3x3x3x3 1 × IVec S3x3x3x3 1 × IVec S3x3x3x3 1 :=
  let main_v18 : FVec F S1x1x1x3x3 .f32 := Host.absf main_arg6
  let main_cst_5 : FVec F S_ .f32 := constant S_ .f32 0x7F800000#32
  let main_v19 : FVec F S1x1x1x3x3 .f32 := broadcastInDim S1x1x1x3x3 ![] bcast_S_S1x1x1x3x3 main_cst_5
  let main_v20 : IVec S1x1x1x3x3 1 := cmpf .olt main_v18 main_v19
  let main_v21 : FVec F S1x1x1x3x3 .f32 := Host.absf main_arg7
  let main_cst_6 : FVec F S_ .f32 := constant S_ .f32 0x7F800000#32
  let main_v22 : FVec F S1x1x1x3x3 .f32 := broadcastInDim S1x1x1x3x3 ![] bcast_S_S1x1x1x3x3 main_cst_6
  let main_v23 : IVec S1x1x1x3x3 1 := cmpf .olt main_v21 main_v22
  let main_v24 : FVec F S3x3 .f32 := shapeCast S3x3 main_arg4 shapeCasts_S1x1x1x3x3_S3x3
  let main_v25 : FVec F S3x1x3x1 .f32 := shapeCast S3x1x3x1 main_v24 shapeCasts_S3x3_S3x1x3x1
  let main_v26 : FVec F S1x3x1x3 .f32 := shapeCast S1x3x1x3 main_v24 shapeCasts_S3x3_S1x3x1x3
  let main_v27 : FVec F S3x3x3x3 .f32 := broadcastInDim S3x3x3x3 ![0, 1, 2, 3] bcast_S3x1x3x1_S3x3x3x3_0_1_2_3 main_v25
  let main_v28 : FVec F S3x3x3x3 .f32 := broadcastInDim S3x3x3x3 ![0, 1, 2, 3] bcast_S1x3x1x3_S3x3x3x3_0_1_2_3 main_v26
  let main_v29 : FVec F S3x3x3x3 .f32 := mulf main_v27 main_v28
  let main_v30 : FVec F S3x3x3x3 .f32 := (transpose S3x3x3x3 [0, 1, 3, 2] · transposes_S3x3x3x3_S3x3x3x3_0_1_3_2) main_v29
  let main_v31 : IVec S3x3x3x3 1 := cmpf .oeq main_v29 main_v30
  let main_v32 : FVec F S3x3 .f32 := shapeCast S3x3 main_arg5 shapeCasts_S1x1x1x3x3_S3x3
  let main_v33 : FVec F S3x1x3x1 .f32 := shapeCast S3x1x3x1 main_v32 shapeCasts_S3x3_S3x1x3x1
  let main_v34 : FVec F S1x3x1x3 .f32 := shapeCast S1x3x1x3 main_v32 shapeCasts_S3x3_S1x3x1x3
  let main_v35 : FVec F S3x3x3x3 .f32 := broadcastInDim S3x3x3x3 ![0, 1, 2, 3] bcast_S3x1x3x1_S3x3x3x3_0_1_2_3 main_v33
  let main_v36 : FVec F S3x3x3x3 .f32 := broadcastInDim S3x3x3x3 ![0, 1, 2, 3] bcast_S1x3x1x3_S3x3x3x3_0_1_2_3 main_v34
  let main_v37 : FVec F S3x3x3x3 .f32 := mulf main_v35 main_v36
  let main_v38 : FVec F S3x3x3x3 .f32 := (transpose S3x3x3x3 [0, 1, 3, 2] · transposes_S3x3x3x3_S3x3x3x3_0_1_3_2) main_v37
  let main_v39 : IVec S3x3x3x3 1 := cmpf .oeq main_v37 main_v38
  fn_part2 (F := F) main_arg6 main_arg7 main_v2 main_v5 main_v8 main_v11 main_v14 main_v17 main_v20 main_v23 main_v31 main_v39

def fn {F : FTy → Type} [FloatOps F] (main_arg0 : FVec F S1x1x64x256x256 .f32) (main_arg1 : FVec F S1x1x3x1x1 .f32) (main_arg2 : FVec F S1x1x3x1x1 .f32) (main_arg3 : FVec F S1x1x3x1x1 .f32) (main_arg4 : FVec F S1x1x1x3x3 .f32) (main_arg5 : FVec F S1x1x1x3x3 .f32) (main_arg6 : FVec F S1x1x1x3x3 .f32) (main_arg7 : FVec F S1x1x1x3x3 .f32) : IVec S1x1x64x256x256 1 × IVec S1x1x3x1x1 1 × IVec S1x1x3x1x1 1 × IVec S1x1x3x1x1 1 × IVec S1x1x1x3x3 1 × IVec S1x1x1x3x3 1 × IVec S1x1x1x3x3 1 × IVec S1x1x1x3x3 1 × IVec S3x3x3x3 1 × IVec S3x3x3x3 1 × IVec S3x3x3x3 1 × IVec S3x3x3x3 1 :=
  let main_v0 : FVec F S1x1x64x256x256 .f32 := Host.absf main_arg0
  let main_cst : FVec F S_ .f32 := constant S_ .f32 0x7F800000#32
  let main_v1 : FVec F S1x1x64x256x256 .f32 := broadcastInDim S1x1x64x256x256 ![] bcast_S_S1x1x64x256x256 main_cst
  let main_v2 : IVec S1x1x64x256x256 1 := cmpf .olt main_v0 main_v1
  let main_v3 : FVec F S1x1x3x1x1 .f32 := Host.absf main_arg1
  let main_cst_0 : FVec F S_ .f32 := constant S_ .f32 0x7F800000#32
  let main_v4 : FVec F S1x1x3x1x1 .f32 := broadcastInDim S1x1x3x1x1 ![] bcast_S_S1x1x3x1x1 main_cst_0
  let main_v5 : IVec S1x1x3x1x1 1 := cmpf .olt main_v3 main_v4
  let main_v6 : FVec F S1x1x3x1x1 .f32 := Host.absf main_arg2
  let main_cst_1 : FVec F S_ .f32 := constant S_ .f32 0x7F800000#32
  let main_v7 : FVec F S1x1x3x1x1 .f32 := broadcastInDim S1x1x3x1x1 ![] bcast_S_S1x1x3x1x1 main_cst_1
  let main_v8 : IVec S1x1x3x1x1 1 := cmpf .olt main_v6 main_v7
  let main_v9 : FVec F S1x1x3x1x1 .f32 := Host.absf main_arg3
  let main_cst_2 : FVec F S_ .f32 := constant S_ .f32 0x7F800000#32
  let main_v10 : FVec F S1x1x3x1x1 .f32 := broadcastInDim S1x1x3x1x1 ![] bcast_S_S1x1x3x1x1 main_cst_2
  let main_v11 : IVec S1x1x3x1x1 1 := cmpf .olt main_v9 main_v10
  let main_v12 : FVec F S1x1x1x3x3 .f32 := Host.absf main_arg4
  let main_cst_3 : FVec F S_ .f32 := constant S_ .f32 0x7F800000#32
  let main_v13 : FVec F S1x1x1x3x3 .f32 := broadcastInDim S1x1x1x3x3 ![] bcast_S_S1x1x1x3x3 main_cst_3
  let main_v14 : IVec S1x1x1x3x3 1 := cmpf .olt main_v12 main_v13
  let main_v15 : FVec F S1x1x1x3x3 .f32 := Host.absf main_arg5
  let main_cst_4 : FVec F S_ .f32 := constant S_ .f32 0x7F800000#32
  let main_v16 : FVec F S1x1x1x3x3 .f32 := broadcastInDim S1x1x1x3x3 ![] bcast_S_S1x1x1x3x3 main_cst_4
  let main_v17 : IVec S1x1x1x3x3 1 := cmpf .olt main_v15 main_v16
  fn_part1 (F := F) main_arg4 main_arg5 main_arg6 main_arg7 main_v2 main_v5 main_v8 main_v11 main_v14 main_v17
-- ==== Kernel.lean ====
abbrev S1x1x64x256x256 : Shape := ⟨5, ![1, 1, 64, 256, 256]⟩
abbrev S1x1x3x1x1 : Shape := ⟨5, ![1, 1, 3, 1, 1]⟩
abbrev S1x1x1x3x3 : Shape := ⟨5, ![1, 1, 1, 3, 3]⟩
abbrev S64x256x256 : Shape := ⟨3, ![64, 256, 256]⟩
abbrev S3 : Shape := ⟨1, ![3]⟩
abbrev S1 : Shape := ⟨1, ![1]⟩
abbrev S_ : Shape := ⟨0, ![]⟩
abbrev S64x64 : Shape := ⟨2, ![64, 64]⟩
abbrev S64 : Shape := ⟨1, ![64]⟩
abbrev S64x1 : Shape := ⟨2, ![64, 1]⟩
abbrev S7 : Shape := ⟨1, ![7]⟩
abbrev S1x7 : Shape := ⟨2, ![1, 7]⟩
abbrev S64x7 : Shape := ⟨2, ![64, 7]⟩
abbrev S64x7x1 : Shape := ⟨3, ![64, 7, 1]⟩
abbrev S64x7x2 : Shape := ⟨3, ![64, 7, 2]⟩
abbrev S3x3 : Shape := ⟨2, ![3, 3]⟩
abbrev S9 : Shape := ⟨1, ![9]⟩
abbrev S1x1 : Shape := ⟨2, ![1, 1]⟩
abbrev S3x1 : Shape := ⟨2, ![3, 1]⟩
abbrev S1x3 : Shape := ⟨2, ![1, 3]⟩
abbrev S256x256 : Shape := ⟨2, ![256, 256]⟩
abbrev S16384x256 : Shape := ⟨2, ![16384, 256]⟩
abbrev S2048x256 : Shape := ⟨2, ![2048, 256]⟩
abbrev S1x256x256 : Shape := ⟨3, ![1, 256, 256]⟩

abbrev nBuf : Space → Nat
  | .hbm => 803
  | .vmem => 6
  | .smem => 1
  | _ => 0

abbrev hbmTy0_0 (i : Nat) : BufTy := match i % 128 with
  | 0 => ⟨S1x1x64x256x256, .f32⟩
  | 1 => ⟨S1x1x3x1x1, .f32⟩
  | 2 => ⟨S1x1x3x1x1, .f32⟩
  | 3 => ⟨S1x1x3x1x1, .f32⟩
  | 4 => ⟨S1x1x1x3x3, .f32⟩
  | 5 => ⟨S1x1x1x3x3, .f32⟩
  | 6 => ⟨S1x1x1x3x3, .f32⟩
  | 7 => ⟨S1x1x1x3x3, .f32⟩
  | 8 => ⟨S64x256x256, .f32⟩
  | 9 => ⟨S3, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S64x64, .i32⟩
  | 17 => ⟨S64x64, .i32⟩
  | 18 => ⟨S_, .i32⟩
  | 19 => ⟨S64x64, .i32⟩
  | 20 => ⟨S64x64, .i32⟩
  | 21 => ⟨S64x64, .i1⟩
  | 22 => ⟨S64x64, .f32⟩
  | 23 => ⟨S64x64, .f32⟩
  | 24 => ⟨S64x64, .f32⟩
  | 25 => ⟨S64x64, .i32⟩
  | 26 => ⟨S64x64, .i32⟩
  | 27 => ⟨S_, .i32⟩
  | 28 => ⟨S64x64, .i32⟩
  | 29 => ⟨S64x64, .i32⟩
  | 30 => ⟨S64x64, .i1⟩
  | 31 => ⟨S64x64, .f32⟩
  | 32 => ⟨S64x64, .f32⟩
  | 33 => ⟨S64x64, .f32⟩
  | 34 => ⟨S64x64, .f32⟩
  | 35 => ⟨S64x64, .i32⟩
  | 36 => ⟨S64x64, .i32⟩
  | 37 => ⟨S_, .i32⟩
  | 38 => ⟨S64x64, .i32⟩
  | 39 => ⟨S64x64, .i32⟩
  | 40 => ⟨S64x64, .i1⟩
  | 41 => ⟨S64x64, .f32⟩
  | 42 => ⟨S64x64, .f32⟩
  | 43 => ⟨S64x64, .f32⟩
  | 44 => ⟨S64x64, .f32⟩
  | 45 => ⟨S3, .f32⟩
  | 46 => ⟨S1, .f32⟩
  | 47 => ⟨S_, .f32⟩
  | 48 => ⟨S1, .f32⟩
  | 49 => ⟨S_, .f32⟩
  | 50 => ⟨S1, .f32⟩
  | 51 => ⟨S_, .f32⟩
  | 52 => ⟨S64x64, .i32⟩
  | 53 => ⟨S64x64, .i32⟩
  | 54 => ⟨S_, .i32⟩
  | 55 => ⟨S64x64, .i32⟩
  | 56 => ⟨S64x64, .i32⟩
  | 57 => ⟨S64x64, .i1⟩
  | 58 => ⟨S64x64, .f32⟩
  | 59 => ⟨S64x64, .f32⟩
  | 60 => ⟨S64x64, .f32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64, .i1⟩
  | 67 => ⟨S64x64, .f32⟩
  | 68 => ⟨S64x64, .f32⟩
  | 69 => ⟨S64x64, .f32⟩
  | 70 => ⟨S64x64, .f32⟩
  | 71 => ⟨S64x64, .i32⟩
  | 72 => ⟨S64x64, .i32⟩
  | 73 => ⟨S_, .i32⟩
  | 74 => ⟨S64x64, .i32⟩
  | 75 => ⟨S64x64, .i32⟩
  | 76 => ⟨S64x64, .i1⟩
  | 77 => ⟨S64x64, .f32⟩
  | 78 => ⟨S64x64, .f32⟩
  | 79 => ⟨S64x64, .f32⟩
  | 80 => ⟨S64x64, .f32⟩
  | 81 => ⟨S3, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x64, .i1⟩
  | 94 => ⟨S64x64, .f32⟩
  | 95 => ⟨S64x64, .f32⟩
  | 96 => ⟨S64x64, .f32⟩
  | 97 => ⟨S64x64, .i32⟩
  | 98 => ⟨S64x64, .i32⟩
  | 99 => ⟨S_, .i32⟩
  | 100 => ⟨S64x64, .i32⟩
  | 101 => ⟨S64x64, .i32⟩
  | 102 => ⟨S64x64, .i1⟩
  | 103 => ⟨S64x64, .f32⟩
  | 104 => ⟨S64x64, .f32⟩
  | 105 => ⟨S64x64, .f32⟩
  | 106 => ⟨S64x64, .f32⟩
  | 107 => ⟨S64x64, .i32⟩
  | 108 => ⟨S64x64, .i32⟩
  | 109 => ⟨S_, .i32⟩
  | 110 => ⟨S64x64, .i32⟩
  | 111 => ⟨S64x64, .i32⟩
  | 112 => ⟨S64x64, .i1⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64, .i32⟩
  | 120 => ⟨S64x1, .i32⟩
  | 121 => ⟨S7, .i32⟩
  | 122 => ⟨S1x7, .i32⟩
  | 123 => ⟨S64x7, .i32⟩
  | 124 => ⟨S64x7, .i32⟩
  | 125 => ⟨S64x7, .i32⟩
  | 126 => ⟨S_, .i32⟩
  | 127 => ⟨S64x7, .i32⟩
  | _ => ⟨S1x1x64x256x256, .f32⟩

abbrev hbmTy0_1 (i : Nat) : BufTy := match i % 128 with
  | 0 => ⟨S64x7, .i32⟩
  | 1 => ⟨S_, .i32⟩
  | 2 => ⟨S64x7, .i32⟩
  | 3 => ⟨S64x7, .i1⟩
  | 4 => ⟨S_, .i32⟩
  | 5 => ⟨S64x7, .i32⟩
  | 6 => ⟨S64x7, .i1⟩
  | 7 => ⟨S64x7, .i1⟩
  | 8 => ⟨S_, .i32⟩
  | 9 => ⟨S_, .i32⟩
  | 10 => ⟨S_, .i32⟩
  | 11 => ⟨S64x7, .i32⟩
  | 12 => ⟨S64x7, .i32⟩
  | 13 => ⟨S_, .i32⟩
  | 14 => ⟨S64x7, .i32⟩
  | 15 => ⟨S64x7, .i32⟩
  | 16 => ⟨S_, .i32⟩
  | 17 => ⟨S64x1, .i32⟩
  | 18 => ⟨S64x1, .i1⟩
  | 19 => ⟨S_, .i32⟩
  | 20 => ⟨S64x1, .i32⟩
  | 21 => ⟨S64x1, .i32⟩
  | 22 => ⟨S64x1, .i32⟩
  | 23 => ⟨S_, .i32⟩
  | 24 => ⟨S64x7, .i32⟩
  | 25 => ⟨S64x7, .i1⟩
  | 26 => ⟨S_, .i32⟩
  | 27 => ⟨S64x7, .i32⟩
  | 28 => ⟨S64x7, .i32⟩
  | 29 => ⟨S64x7, .i32⟩
  | 30 => ⟨S64x7, .i32⟩
  | 31 => ⟨S64x7x1, .i32⟩
  | 32 => ⟨S64x7x1, .i32⟩
  | 33 => ⟨S64x7x2, .i32⟩
  | 34 => ⟨S64x7, .f32⟩
  | 35 => ⟨S_, .f32⟩
  | 36 => ⟨S_, .f32⟩
  | 37 => ⟨S64x7, .f32⟩
  | 38 => ⟨S64x7, .f32⟩
  | 39 => ⟨S3x3, .f32⟩
  | 40 => ⟨S3x3, .f32⟩
  | 41 => ⟨S9, .f32⟩
  | 42 => ⟨S9, .i32⟩
  | 43 => ⟨S_, .f32⟩
  | 44 => ⟨S_, .i32⟩
  | 45 => ⟨S_, .f32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i1⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i1⟩
  | 71 => ⟨S_, .i32⟩
  | 72 => ⟨S_, .i1⟩
  | 73 => ⟨S_, .i1⟩
  | 74 => ⟨S_, .i1⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1x1, .f32⟩
  | 88 => ⟨S_, .f32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S3x1, .f32⟩
  | 103 => ⟨S3, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x3, .f32⟩
  | 118 => ⟨S3, .f32⟩
  | 119 => ⟨S_, .f32⟩
  | 120 => ⟨S_, .i1⟩
  | 121 => ⟨S_, .f32⟩
  | 122 => ⟨S_, .f32⟩
  | 123 => ⟨S_, .f32⟩
  | 124 => ⟨S3, .f32⟩
  | 125 => ⟨S3, .f32⟩
  | 126 => ⟨S1, .f32⟩
  | 127 => ⟨S_, .f32⟩
  | _ => ⟨S1x1x64x256x256, .f32⟩

abbrev hbmTy0_2 (i : Nat) : BufTy := match i % 128 with
  | 0 => ⟨S1, .f32⟩
  | 1 => ⟨S_, .f32⟩
  | 2 => ⟨S1, .f32⟩
  | 3 => ⟨S_, .f32⟩
  | 4 => ⟨S256x256, .i32⟩
  | 5 => ⟨S256x256, .i32⟩
  | 6 => ⟨S_, .i32⟩
  | 7 => ⟨S256x256, .i32⟩
  | 8 => ⟨S256x256, .i32⟩
  | 9 => ⟨S256x256, .i1⟩
  | 10 => ⟨S256x256, .f32⟩
  | 11 => ⟨S256x256, .f32⟩
  | 12 => ⟨S256x256, .f32⟩
  | 13 => ⟨S256x256, .i32⟩
  | 14 => ⟨S256x256, .i32⟩
  | 15 => ⟨S_, .i32⟩
  | 16 => ⟨S256x256, .i32⟩
  | 17 => ⟨S256x256, .i32⟩
  | 18 => ⟨S256x256, .i1⟩
  | 19 => ⟨S256x256, .f32⟩
  | 20 => ⟨S256x256, .f32⟩
  | 21 => ⟨S256x256, .f32⟩
  | 22 => ⟨S256x256, .f32⟩
  | 23 => ⟨S256x256, .i32⟩
  | 24 => ⟨S256x256, .i32⟩
  | 25 => ⟨S_, .i32⟩
  | 26 => ⟨S256x256, .i32⟩
  | 27 => ⟨S256x256, .i32⟩
  | 28 => ⟨S256x256, .i1⟩
  | 29 => ⟨S256x256, .f32⟩
  | 30 => ⟨S256x256, .f32⟩
  | 31 => ⟨S256x256, .f32⟩
  | 32 => ⟨S256x256, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S256x256, .i32⟩
  | 40 => ⟨S256x256, .i32⟩
  | 41 => ⟨S_, .i32⟩
  | 42 => ⟨S256x256, .i32⟩
  | 43 => ⟨S256x256, .i32⟩
  | 44 => ⟨S256x256, .i1⟩
  | 45 => ⟨S256x256, .f32⟩
  | 46 => ⟨S256x256, .f32⟩
  | 47 => ⟨S256x256, .f32⟩
  | 48 => ⟨S256x256, .i32⟩
  | 49 => ⟨S256x256, .i32⟩
  | 50 => ⟨S_, .i32⟩
  | 51 => ⟨S256x256, .i32⟩
  | 52 => ⟨S256x256, .i32⟩
  | 53 => ⟨S256x256, .i1⟩
  | 54 => ⟨S256x256, .f32⟩
  | 55 => ⟨S256x256, .f32⟩
  | 56 => ⟨S256x256, .f32⟩
  | 57 => ⟨S256x256, .f32⟩
  | 58 => ⟨S256x256, .i32⟩
  | 59 => ⟨S256x256, .i32⟩
  | 60 => ⟨S_, .i32⟩
  | 61 => ⟨S256x256, .i32⟩
  | 62 => ⟨S256x256, .i32⟩
  | 63 => ⟨S256x256, .i1⟩
  | 64 => ⟨S256x256, .f32⟩
  | 65 => ⟨S256x256, .f32⟩
  | 66 => ⟨S256x256, .f32⟩
  | 67 => ⟨S256x256, .f32⟩
  | 68 => ⟨S3x3, .f32⟩
  | 69 => ⟨S3x3, .f32⟩
  | 70 => ⟨S9, .f32⟩
  | 71 => ⟨S9, .i32⟩
  | 72 => ⟨S_, .f32⟩
  | 73 => ⟨S_, .i32⟩
  | 74 => ⟨S_, .f32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i1⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i1⟩
  | 100 => ⟨S_, .i32⟩
  | 101 => ⟨S_, .i1⟩
  | 102 => ⟨S_, .i1⟩
  | 103 => ⟨S_, .i1⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S1x1, .f32⟩
  | 117 => ⟨S_, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S1x1x64x256x256, .f32⟩

abbrev hbmTy0_3 (i : Nat) : BufTy := match i % 128 with
  | 0 => ⟨S_, .i32⟩
  | 1 => ⟨S_, .i32⟩
  | 2 => ⟨S_, .i32⟩
  | 3 => ⟨S3x1, .f32⟩
  | 4 => ⟨S3, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S1x3, .f32⟩
  | 19 => ⟨S3, .f32⟩
  | 20 => ⟨S_, .f32⟩
  | 21 => ⟨S_, .i1⟩
  | 22 => ⟨S_, .f32⟩
  | 23 => ⟨S_, .f32⟩
  | 24 => ⟨S_, .f32⟩
  | 25 => ⟨S3, .f32⟩
  | 26 => ⟨S3, .f32⟩
  | 27 => ⟨S1, .f32⟩
  | 28 => ⟨S_, .f32⟩
  | 29 => ⟨S1, .f32⟩
  | 30 => ⟨S_, .f32⟩
  | 31 => ⟨S1, .f32⟩
  | 32 => ⟨S_, .f32⟩
  | 33 => ⟨S256x256, .i32⟩
  | 34 => ⟨S256x256, .i32⟩
  | 35 => ⟨S_, .i32⟩
  | 36 => ⟨S256x256, .i32⟩
  | 37 => ⟨S256x256, .i32⟩
  | 38 => ⟨S256x256, .i1⟩
  | 39 => ⟨S256x256, .f32⟩
  | 40 => ⟨S256x256, .f32⟩
  | 41 => ⟨S256x256, .f32⟩
  | 42 => ⟨S256x256, .i32⟩
  | 43 => ⟨S256x256, .i32⟩
  | 44 => ⟨S_, .i32⟩
  | 45 => ⟨S256x256, .i32⟩
  | 46 => ⟨S256x256, .i32⟩
  | 47 => ⟨S256x256, .i1⟩
  | 48 => ⟨S256x256, .f32⟩
  | 49 => ⟨S256x256, .f32⟩
  | 50 => ⟨S256x256, .f32⟩
  | 51 => ⟨S256x256, .f32⟩
  | 52 => ⟨S256x256, .i32⟩
  | 53 => ⟨S256x256, .i32⟩
  | 54 => ⟨S_, .i32⟩
  | 55 => ⟨S256x256, .i32⟩
  | 56 => ⟨S256x256, .i32⟩
  | 57 => ⟨S256x256, .i1⟩
  | 58 => ⟨S256x256, .f32⟩
  | 59 => ⟨S256x256, .f32⟩
  | 60 => ⟨S256x256, .f32⟩
  | 61 => ⟨S256x256, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S256x256, .i32⟩
  | 69 => ⟨S256x256, .i32⟩
  | 70 => ⟨S_, .i32⟩
  | 71 => ⟨S256x256, .i32⟩
  | 72 => ⟨S256x256, .i32⟩
  | 73 => ⟨S256x256, .i1⟩
  | 74 => ⟨S256x256, .f32⟩
  | 75 => ⟨S256x256, .f32⟩
  | 76 => ⟨S256x256, .f32⟩
  | 77 => ⟨S256x256, .i32⟩
  | 78 => ⟨S256x256, .i32⟩
  | 79 => ⟨S_, .i32⟩
  | 80 => ⟨S256x256, .i32⟩
  | 81 => ⟨S256x256, .i32⟩
  | 82 => ⟨S256x256, .i1⟩
  | 83 => ⟨S256x256, .f32⟩
  | 84 => ⟨S256x256, .f32⟩
  | 85 => ⟨S256x256, .f32⟩
  | 86 => ⟨S256x256, .f32⟩
  | 87 => ⟨S256x256, .i32⟩
  | 88 => ⟨S256x256, .i32⟩
  | 89 => ⟨S_, .i32⟩
  | 90 => ⟨S256x256, .i32⟩
  | 91 => ⟨S256x256, .i32⟩
  | 92 => ⟨S256x256, .i1⟩
  | 93 => ⟨S256x256, .f32⟩
  | 94 => ⟨S256x256, .f32⟩
  | 95 => ⟨S256x256, .f32⟩
  | 96 => ⟨S256x256, .f32⟩
  | 97 => ⟨S256x256, .f32⟩
  | 98 => ⟨S256x256, .f32⟩
  | 99 => ⟨S3x3, .f32⟩
  | 100 => ⟨S3x3, .f32⟩
  | 101 => ⟨S9, .f32⟩
  | 102 => ⟨S9, .i32⟩
  | 103 => ⟨S_, .f32⟩
  | 104 => ⟨S_, .i32⟩
  | 105 => ⟨S_, .f32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i1⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S1x1x64x256x256, .f32⟩

abbrev hbmTy0_4 (i : Nat) : BufTy := match i % 128 with
  | 0 => ⟨S_, .i1⟩
  | 1 => ⟨S_, .i32⟩
  | 2 => ⟨S_, .i1⟩
  | 3 => ⟨S_, .i32⟩
  | 4 => ⟨S_, .i1⟩
  | 5 => ⟨S_, .i1⟩
  | 6 => ⟨S_, .i1⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S1x1, .f32⟩
  | 20 => ⟨S_, .f32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S3x1, .f32⟩
  | 35 => ⟨S3, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x3, .f32⟩
  | 50 => ⟨S3, .f32⟩
  | 51 => ⟨S_, .f32⟩
  | 52 => ⟨S_, .i1⟩
  | 53 => ⟨S_, .f32⟩
  | 54 => ⟨S_, .f32⟩
  | 55 => ⟨S_, .f32⟩
  | 56 => ⟨S3, .f32⟩
  | 57 => ⟨S3, .f32⟩
  | 58 => ⟨S1, .f32⟩
  | 59 => ⟨S_, .f32⟩
  | 60 => ⟨S1, .f32⟩
  | 61 => ⟨S_, .f32⟩
  | 62 => ⟨S1, .f32⟩
  | 63 => ⟨S_, .f32⟩
  | 64 => ⟨S256x256, .i32⟩
  | 65 => ⟨S256x256, .i32⟩
  | 66 => ⟨S_, .i32⟩
  | 67 => ⟨S256x256, .i32⟩
  | 68 => ⟨S256x256, .i32⟩
  | 69 => ⟨S256x256, .i1⟩
  | 70 => ⟨S256x256, .f32⟩
  | 71 => ⟨S256x256, .f32⟩
  | 72 => ⟨S256x256, .f32⟩
  | 73 => ⟨S256x256, .i32⟩
  | 74 => ⟨S256x256, .i32⟩
  | 75 => ⟨S_, .i32⟩
  | 76 => ⟨S256x256, .i32⟩
  | 77 => ⟨S256x256, .i32⟩
  | 78 => ⟨S256x256, .i1⟩
  | 79 => ⟨S256x256, .f32⟩
  | 80 => ⟨S256x256, .f32⟩
  | 81 => ⟨S256x256, .f32⟩
  | 82 => ⟨S256x256, .f32⟩
  | 83 => ⟨S256x256, .i32⟩
  | 84 => ⟨S256x256, .i32⟩
  | 85 => ⟨S_, .i32⟩
  | 86 => ⟨S256x256, .i32⟩
  | 87 => ⟨S256x256, .i32⟩
  | 88 => ⟨S256x256, .i1⟩
  | 89 => ⟨S256x256, .f32⟩
  | 90 => ⟨S256x256, .f32⟩
  | 91 => ⟨S256x256, .f32⟩
  | 92 => ⟨S256x256, .f32⟩
  | 93 => ⟨S1, .f32⟩
  | 94 => ⟨S_, .f32⟩
  | 95 => ⟨S1, .f32⟩
  | 96 => ⟨S_, .f32⟩
  | 97 => ⟨S1, .f32⟩
  | 98 => ⟨S_, .f32⟩
  | 99 => ⟨S256x256, .i32⟩
  | 100 => ⟨S256x256, .i32⟩
  | 101 => ⟨S_, .i32⟩
  | 102 => ⟨S256x256, .i32⟩
  | 103 => ⟨S256x256, .i32⟩
  | 104 => ⟨S256x256, .i1⟩
  | 105 => ⟨S256x256, .f32⟩
  | 106 => ⟨S256x256, .f32⟩
  | 107 => ⟨S256x256, .f32⟩
  | 108 => ⟨S256x256, .i32⟩
  | 109 => ⟨S256x256, .i32⟩
  | 110 => ⟨S_, .i32⟩
  | 111 => ⟨S256x256, .i32⟩
  | 112 => ⟨S256x256, .i32⟩
  | 113 => ⟨S256x256, .i1⟩
  | 114 => ⟨S256x256, .f32⟩
  | 115 => ⟨S256x256, .f32⟩
  | 116 => ⟨S256x256, .f32⟩
  | 117 => ⟨S256x256, .f32⟩
  | 118 => ⟨S256x256, .i32⟩
  | 119 => ⟨S256x256, .i32⟩
  | 120 => ⟨S_, .i32⟩
  | 121 => ⟨S256x256, .i32⟩
  | 122 => ⟨S256x256, .i32⟩
  | 123 => ⟨S256x256, .i1⟩
  | 124 => ⟨S256x256, .f32⟩
  | 125 => ⟨S256x256, .f32⟩
  | 126 => ⟨S256x256, .f32⟩
  | 127 => ⟨S256x256, .f32⟩
  | _ => ⟨S1x1x64x256x256, .f32⟩

abbrev hbmTy0_5 (i : Nat) : BufTy := match i % 128 with
  | 0 => ⟨S256x256, .f32⟩
  | 1 => ⟨S256x256, .f32⟩
  | 2 => ⟨S3x3, .f32⟩
  | 3 => ⟨S3x3, .f32⟩
  | 4 => ⟨S9, .f32⟩
  | 5 => ⟨S9, .i32⟩
  | 6 => ⟨S_, .f32⟩
  | 7 => ⟨S_, .i32⟩
  | 8 => ⟨S_, .f32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i1⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i1⟩
  | 34 => ⟨S_, .i32⟩
  | 35 => ⟨S_, .i1⟩
  | 36 => ⟨S_, .i1⟩
  | 37 => ⟨S_, .i1⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S1x1, .f32⟩
  | 51 => ⟨S_, .f32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S3x1, .f32⟩
  | 66 => ⟨S3, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x3, .f32⟩
  | 81 => ⟨S3, .f32⟩
  | 82 => ⟨S_, .f32⟩
  | 83 => ⟨S_, .i1⟩
  | 84 => ⟨S_, .f32⟩
  | 85 => ⟨S_, .f32⟩
  | 86 => ⟨S_, .f32⟩
  | 87 => ⟨S3, .f32⟩
  | 88 => ⟨S3, .f32⟩
  | 89 => ⟨S1, .f32⟩
  | 90 => ⟨S_, .f32⟩
  | 91 => ⟨S1, .f32⟩
  | 92 => ⟨S_, .f32⟩
  | 93 => ⟨S1, .f32⟩
  | 94 => ⟨S_, .f32⟩
  | 95 => ⟨S256x256, .i32⟩
  | 96 => ⟨S256x256, .i32⟩
  | 97 => ⟨S_, .i32⟩
  | 98 => ⟨S256x256, .i32⟩
  | 99 => ⟨S256x256, .i32⟩
  | 100 => ⟨S256x256, .i1⟩
  | 101 => ⟨S256x256, .f32⟩
  | 102 => ⟨S256x256, .f32⟩
  | 103 => ⟨S256x256, .f32⟩
  | 104 => ⟨S256x256, .i32⟩
  | 105 => ⟨S256x256, .i32⟩
  | 106 => ⟨S_, .i32⟩
  | 107 => ⟨S256x256, .i32⟩
  | 108 => ⟨S256x256, .i32⟩
  | 109 => ⟨S256x256, .i1⟩
  | 110 => ⟨S256x256, .f32⟩
  | 111 => ⟨S256x256, .f32⟩
  | 112 => ⟨S256x256, .f32⟩
  | 113 => ⟨S256x256, .f32⟩
  | 114 => ⟨S256x256, .i32⟩
  | 115 => ⟨S256x256, .i32⟩
  | 116 => ⟨S_, .i32⟩
  | 117 => ⟨S256x256, .i32⟩
  | 118 => ⟨S256x256, .i32⟩
  | 119 => ⟨S256x256, .i1⟩
  | 120 => ⟨S256x256, .f32⟩
  | 121 => ⟨S256x256, .f32⟩
  | 122 => ⟨S256x256, .f32⟩
  | 123 => ⟨S256x256, .f32⟩
  | 124 => ⟨S1, .f32⟩
  | 125 => ⟨S_, .f32⟩
  | 126 => ⟨S1, .f32⟩
  | 127 => ⟨S_, .f32⟩
  | _ => ⟨S1x1x64x256x256, .f32⟩

abbrev hbmTy0_6 (i : Nat) : BufTy := match i % 128 with
  | 0 => ⟨S1, .f32⟩
  | 1 => ⟨S_, .f32⟩
  | 2 => ⟨S256x256, .i32⟩
  | 3 => ⟨S256x256, .i32⟩
  | 4 => ⟨S_, .i32⟩
  | 5 => ⟨S256x256, .i32⟩
  | 6 => ⟨S256x256, .i32⟩
  | 7 => ⟨S256x256, .i1⟩
  | 8 => ⟨S256x256, .f32⟩
  | 9 => ⟨S256x256, .f32⟩
  | 10 => ⟨S256x256, .f32⟩
  | 11 => ⟨S256x256, .i32⟩
  | 12 => ⟨S256x256, .i32⟩
  | 13 => ⟨S_, .i32⟩
  | 14 => ⟨S256x256, .i32⟩
  | 15 => ⟨S256x256, .i32⟩
  | 16 => ⟨S256x256, .i1⟩
  | 17 => ⟨S256x256, .f32⟩
  | 18 => ⟨S256x256, .f32⟩
  | 19 => ⟨S256x256, .f32⟩
  | 20 => ⟨S256x256, .f32⟩
  | 21 => ⟨S256x256, .i32⟩
  | 22 => ⟨S256x256, .i32⟩
  | 23 => ⟨S_, .i32⟩
  | 24 => ⟨S256x256, .i32⟩
  | 25 => ⟨S256x256, .i32⟩
  | 26 => ⟨S256x256, .i1⟩
  | 27 => ⟨S256x256, .f32⟩
  | 28 => ⟨S256x256, .f32⟩
  | 29 => ⟨S256x256, .f32⟩
  | 30 => ⟨S256x256, .f32⟩
  | 31 => ⟨S256x256, .f32⟩
  | 32 => ⟨S256x256, .f32⟩
  | 33 => ⟨S16384x256, .f32⟩
  | 34 => ⟨S1x1x64x256x256, .f32⟩
  | _ => ⟨S1x1x64x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x1x64x256x256, .f32⟩

abbrev bufTy : (tb : Table) → Fin (tcTables nBuf tb) → BufTy
  | .hbm, ⟨i, _⟩ => hbmTy i
  | .local _ .vmem, ⟨0, _⟩ => ⟨S64x256x256, .f32⟩
  | .local _ .vmem, ⟨1, _⟩ => ⟨S256x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .smem, ⟨0, _⟩ => ⟨S64x7, .f32⟩
  | _, _ => ⟨S1x1x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_c_0 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_c_1 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_v36 : Ref sig .tc := ⟨.hbm, 47, rfl⟩
abbrev main_call0_v37 : Ref sig .tc := ⟨.hbm, 48, rfl⟩
abbrev main_call0_v38 : Ref sig .tc := ⟨.hbm, 49, rfl⟩
abbrev main_call0_v39 : Ref sig .tc := ⟨.hbm, 50, rfl⟩
abbrev main_call0_v40 : Ref sig .tc := ⟨.hbm, 51, rfl⟩
abbrev main_call0_v41 : Ref sig .tc := ⟨.hbm, 52, rfl⟩
abbrev main_call0_v42 : Ref sig .tc := ⟨.hbm, 53, rfl⟩
abbrev main_call0_c_2 : Ref sig .tc := ⟨.hbm, 54, rfl⟩
abbrev main_call0_v43 : Ref sig .tc := ⟨.hbm, 55, rfl⟩
abbrev main_call0_v44 : Ref sig .tc := ⟨.hbm, 56, rfl⟩
abbrev main_call0_v45 : Ref sig .tc := ⟨.hbm, 57, rfl⟩
abbrev main_call0_v46 : Ref sig .tc := ⟨.hbm, 58, rfl⟩
abbrev main_call0_v47 : Ref sig .tc := ⟨.hbm, 59, rfl⟩
abbrev main_call0_v48 : Ref sig .tc := ⟨.hbm, 60, rfl⟩
abbrev main_call0_v49 : Ref sig .tc := ⟨.hbm, 61, rfl⟩
abbrev main_call0_v50 : Ref sig .tc := ⟨.hbm, 62, rfl⟩
abbrev main_call0_c_3 : Ref sig .tc := ⟨.hbm, 63, rfl⟩
abbrev main_call0_v51 : Ref sig .tc := ⟨.hbm, 64, rfl⟩
abbrev main_call0_v52 : Ref sig .tc := ⟨.hbm, 65, rfl⟩
abbrev main_call0_v53 : Ref sig .tc := ⟨.hbm, 66, rfl⟩
abbrev main_call0_v54 : Ref sig .tc := ⟨.hbm, 67, rfl⟩
abbrev main_call0_v55 : Ref sig .tc := ⟨.hbm, 68, rfl⟩
abbrev main_call0_v56 : Ref sig .tc := ⟨.hbm, 69, rfl⟩
abbrev main_call0_v57 : Ref sig .tc := ⟨.hbm, 70, rfl⟩
abbrev main_call0_v58 : Ref sig .tc := ⟨.hbm, 71, rfl⟩
abbrev main_call0_v59 : Ref sig .tc := ⟨.hbm, 72, rfl⟩
abbrev main_call0_c_4 : Ref sig .tc := ⟨.hbm, 73, rfl⟩
abbrev main_call0_v60 : Ref sig .tc := ⟨.hbm, 74, rfl⟩
abbrev main_call0_v61 : Ref sig .tc := ⟨.hbm, 75, rfl⟩
abbrev main_call0_v62 : Ref sig .tc := ⟨.hbm, 76, rfl⟩
abbrev main_call0_v63 : Ref sig .tc := ⟨.hbm, 77, rfl⟩
abbrev main_call0_v64 : Ref sig .tc := ⟨.hbm, 78, rfl⟩
abbrev main_call0_v65 : Ref sig .tc := ⟨.hbm, 79, rfl⟩
abbrev main_call0_v66 : Ref sig .tc := ⟨.hbm, 80, rfl⟩
abbrev main_call0_v67 : Ref sig .tc := ⟨.hbm, 81, rfl⟩
abbrev main_call0_v68 : Ref sig .tc := ⟨.hbm, 82, rfl⟩
abbrev main_call0_v69 : Ref sig .tc := ⟨.hbm, 83, rfl⟩
abbrev main_call0_v70 : Ref sig .tc := ⟨.hbm, 84, rfl⟩
abbrev main_call0_v71 : Ref sig .tc := ⟨.hbm, 85, rfl⟩
abbrev main_call0_v72 : Ref sig .tc := ⟨.hbm, 86, rfl⟩
abbrev main_call0_v73 : Ref sig .tc := ⟨.hbm, 87, rfl⟩
abbrev main_call0_v74 : Ref sig .tc := ⟨.hbm, 88, rfl⟩
abbrev main_call0_v75 : Ref sig .tc := ⟨.hbm, 89, rfl⟩
abbrev main_call0_c_5 : Ref sig .tc := ⟨.hbm, 90, rfl⟩
abbrev main_call0_v76 : Ref sig .tc := ⟨.hbm, 91, rfl⟩
abbrev main_call0_v77 : Ref sig .tc := ⟨.hbm, 92, rfl⟩
abbrev main_call0_v78 : Ref sig .tc := ⟨.hbm, 93, rfl⟩
abbrev main_call0_v79 : Ref sig .tc := ⟨.hbm, 94, rfl⟩
abbrev main_call0_v80 : Ref sig .tc := ⟨.hbm, 95, rfl⟩
abbrev main_call0_v81 : Ref sig .tc := ⟨.hbm, 96, rfl⟩
abbrev main_call0_v82 : Ref sig .tc := ⟨.hbm, 97, rfl⟩
abbrev main_call0_v83 : Ref sig .tc := ⟨.hbm, 98, rfl⟩
abbrev main_call0_c_6 : Ref sig .tc := ⟨.hbm, 99, rfl⟩
abbrev main_call0_v84 : Ref sig .tc := ⟨.hbm, 100, rfl⟩
abbrev main_call0_v85 : Ref sig .tc := ⟨.hbm, 101, rfl⟩
abbrev main_call0_v86 : Ref sig .tc := ⟨.hbm, 102, rfl⟩
abbrev main_call0_v87 : Ref sig .tc := ⟨.hbm, 103, rfl⟩
abbrev main_call0_v88 : Ref sig .tc := ⟨.hbm, 104, rfl⟩
abbrev main_call0_v89 : Ref sig .tc := ⟨.hbm, 105, rfl⟩
abbrev main_call0_v90 : Ref sig .tc := ⟨.hbm, 106, rfl⟩
abbrev main_call0_v91 : Ref sig .tc := ⟨.hbm, 107, rfl⟩
abbrev main_call0_v92 : Ref sig .tc := ⟨.hbm, 108, rfl⟩
abbrev main_call0_c_7 : Ref sig .tc := ⟨.hbm, 109, rfl⟩
abbrev main_call0_v93 : Ref sig .tc := ⟨.hbm, 110, rfl⟩
abbrev main_call0_v94 : Ref sig .tc := ⟨.hbm, 111, rfl⟩
abbrev main_call0_v95 : Ref sig .tc := ⟨.hbm, 112, rfl⟩
abbrev main_call0_v96 : Ref sig .tc := ⟨.hbm, 113, rfl⟩
abbrev main_call0_v97 : Ref sig .tc := ⟨.hbm, 114, rfl⟩
abbrev main_call0_v98 : Ref sig .tc := ⟨.hbm, 115, rfl⟩
abbrev main_call0_v99 : Ref sig .tc := ⟨.hbm, 116, rfl⟩
abbrev main_call0_v100 : Ref sig .tc := ⟨.hbm, 117, rfl⟩
abbrev main_call0_v101 : Ref sig .tc := ⟨.hbm, 118, rfl⟩
abbrev main_call0_v102 : Ref sig .tc := ⟨.hbm, 119, rfl⟩
abbrev main_call0_v103 : Ref sig .tc := ⟨.hbm, 120, rfl⟩
abbrev main_call0_v104 : Ref sig .tc := ⟨.hbm, 121, rfl⟩
abbrev main_call0_v105 : Ref sig .tc := ⟨.hbm, 122, rfl⟩
abbrev main_call0_v106 : Ref sig .tc := ⟨.hbm, 123, rfl⟩
abbrev main_call0_v107 : Ref sig .tc := ⟨.hbm, 124, rfl⟩
abbrev main_call0_v108 : Ref sig .tc := ⟨.hbm, 125, rfl⟩
abbrev main_call0_c_8 : Ref sig .tc := ⟨.hbm, 126, rfl⟩
abbrev main_call0_v109 : Ref sig .tc := ⟨.hbm, 127, rfl⟩
abbrev main_call0_v110 : Ref sig .tc := ⟨.hbm, 128, rfl⟩
abbrev main_call0_c_9 : Ref sig .tc := ⟨.hbm, 129, rfl⟩
abbrev main_call0_v111 : Ref sig .tc := ⟨.hbm, 130, rfl⟩
abbrev main_call0_v112 : Ref sig .tc := ⟨.hbm, 131, rfl⟩
abbrev main_call0_c_10 : Ref sig .tc := ⟨.hbm, 132, rfl⟩
abbrev main_call0_v113 : Ref sig .tc := ⟨.hbm, 133, rfl⟩
abbrev main_call0_v114 : Ref sig .tc := ⟨.hbm, 134, rfl⟩
abbrev main_call0_v115 : Ref sig .tc := ⟨.hbm, 135, rfl⟩
abbrev main_call0_c_11 : Ref sig .tc := ⟨.hbm, 136, rfl⟩
abbrev main_call0_c_12 : Ref sig .tc := ⟨.hbm, 137, rfl⟩
abbrev main_call0_call0_v0 : Ref sig .tc := ⟨.hbm, 138, rfl⟩
abbrev main_call0_call0_v1 : Ref sig .tc := ⟨.hbm, 139, rfl⟩
abbrev main_call0_call0_v2 : Ref sig .tc := ⟨.hbm, 140, rfl⟩
abbrev main_call0_call0_v3 : Ref sig .tc := ⟨.hbm, 141, rfl⟩
abbrev main_call0_call0_v4 : Ref sig .tc := ⟨.hbm, 142, rfl⟩
abbrev main_call0_v116 : Ref sig .tc := ⟨.hbm, 143, rfl⟩
abbrev main_call0_c_13 : Ref sig .tc := ⟨.hbm, 144, rfl⟩
abbrev main_call0_v117 : Ref sig .tc := ⟨.hbm, 145, rfl⟩
abbrev main_call0_v118 : Ref sig .tc := ⟨.hbm, 146, rfl⟩
abbrev main_call0_c_14 : Ref sig .tc := ⟨.hbm, 147, rfl⟩
abbrev main_call0_v119 : Ref sig .tc := ⟨.hbm, 148, rfl⟩
abbrev main_call0_v120 : Ref sig .tc := ⟨.hbm, 149, rfl⟩
abbrev main_call0_v121 : Ref sig .tc := ⟨.hbm, 150, rfl⟩
abbrev main_call0_c_15 : Ref sig .tc := ⟨.hbm, 151, rfl⟩
abbrev main_call0_v122 : Ref sig .tc := ⟨.hbm, 152, rfl⟩
abbrev main_call0_v123 : Ref sig .tc := ⟨.hbm, 153, rfl⟩
abbrev main_call0_c_16 : Ref sig .tc := ⟨.hbm, 154, rfl⟩
abbrev main_call0_v124 : Ref sig .tc := ⟨.hbm, 155, rfl⟩
abbrev main_call0_v125 : Ref sig .tc := ⟨.hbm, 156, rfl⟩
abbrev main_call0_v126 : Ref sig .tc := ⟨.hbm, 157, rfl⟩
abbrev main_call0_v127 : Ref sig .tc := ⟨.hbm, 158, rfl⟩
abbrev main_call0_v128 : Ref sig .tc := ⟨.hbm, 159, rfl⟩
abbrev main_call0_v129 : Ref sig .tc := ⟨.hbm, 160, rfl⟩
abbrev main_call0_v130 : Ref sig .tc := ⟨.hbm, 161, rfl⟩
abbrev main_call0_v131 : Ref sig .tc := ⟨.hbm, 162, rfl⟩
abbrev main_call0_cst : Ref sig .tc := ⟨.hbm, 163, rfl⟩
abbrev main_call0_call1_v0 : Ref sig .tc := ⟨.hbm, 164, rfl⟩
abbrev main_call0_call1_v1 : Ref sig .tc := ⟨.hbm, 165, rfl⟩
abbrev main_call0_v132 : Ref sig .tc := ⟨.hbm, 166, rfl⟩
abbrev main_call0_v133 : Ref sig .tc := ⟨.hbm, 167, rfl⟩
abbrev main_call0_v134 : Ref sig .tc := ⟨.hbm, 168, rfl⟩
abbrev main_call0_v135 : Ref sig .tc := ⟨.hbm, 169, rfl⟩
abbrev main_call0_call2_v0 : Ref sig .tc := ⟨.hbm, 170, rfl⟩
abbrev main_call0_call2_cst : Ref sig .tc := ⟨.hbm, 171, rfl⟩
abbrev main_call0_call2_c : Ref sig .tc := ⟨.hbm, 172, rfl⟩
abbrev main_call0_call2_v1_0 : Ref sig .tc := ⟨.hbm, 173, rfl⟩
abbrev main_call0_v136 : Ref sig .tc := ⟨.hbm, 174, rfl⟩
abbrev main_call0_c_17 : Ref sig .tc := ⟨.hbm, 175, rfl⟩
abbrev main_call0_call3_v0 : Ref sig .tc := ⟨.hbm, 176, rfl⟩
abbrev main_call0_call3_v1 : Ref sig .tc := ⟨.hbm, 177, rfl⟩
abbrev main_call0_call3_v2 : Ref sig .tc := ⟨.hbm, 178, rfl⟩
abbrev main_call0_call3_v3 : Ref sig .tc := ⟨.hbm, 179, rfl⟩
abbrev main_call0_call3_v4 : Ref sig .tc := ⟨.hbm, 180, rfl⟩
abbrev main_call0_call3_v5 : Ref sig .tc := ⟨.hbm, 181, rfl⟩
abbrev main_call0_call3_c : Ref sig .tc := ⟨.hbm, 182, rfl⟩
abbrev main_call0_call3_v6 : Ref sig .tc := ⟨.hbm, 183, rfl⟩
abbrev main_call0_call3_v7 : Ref sig .tc := ⟨.hbm, 184, rfl⟩
abbrev main_call0_call3_c_0 : Ref sig .tc := ⟨.hbm, 185, rfl⟩
abbrev main_call0_call3_v8 : Ref sig .tc := ⟨.hbm, 186, rfl⟩
abbrev main_call0_v137 : Ref sig .tc := ⟨.hbm, 187, rfl⟩
abbrev main_call0_c_18 : Ref sig .tc := ⟨.hbm, 188, rfl⟩
abbrev main_call0_call4_v0 : Ref sig .tc := ⟨.hbm, 189, rfl⟩
abbrev main_call0_call4_c : Ref sig .tc := ⟨.hbm, 190, rfl⟩
abbrev main_call0_call4_v1 : Ref sig .tc := ⟨.hbm, 191, rfl⟩
abbrev main_call0_call4_c_0 : Ref sig .tc := ⟨.hbm, 192, rfl⟩
abbrev main_call0_call4_v2 : Ref sig .tc := ⟨.hbm, 193, rfl⟩
abbrev main_call0_call4_v3 : Ref sig .tc := ⟨.hbm, 194, rfl⟩
abbrev main_call0_call4_c_1 : Ref sig .tc := ⟨.hbm, 195, rfl⟩
abbrev main_call0_call4_v4 : Ref sig .tc := ⟨.hbm, 196, rfl⟩
abbrev main_call0_call4_c_2 : Ref sig .tc := ⟨.hbm, 197, rfl⟩
abbrev main_call0_call4_v5 : Ref sig .tc := ⟨.hbm, 198, rfl⟩
abbrev main_call0_call4_c_3 : Ref sig .tc := ⟨.hbm, 199, rfl⟩
abbrev main_call0_call4_v6 : Ref sig .tc := ⟨.hbm, 200, rfl⟩
abbrev main_call0_call4_v7 : Ref sig .tc := ⟨.hbm, 201, rfl⟩
abbrev main_call0_call4_v8 : Ref sig .tc := ⟨.hbm, 202, rfl⟩
abbrev main_call0_call4_v9 : Ref sig .tc := ⟨.hbm, 203, rfl⟩
abbrev main_call0_v138 : Ref sig .tc := ⟨.hbm, 204, rfl⟩
abbrev main_call0_c_19 : Ref sig .tc := ⟨.hbm, 205, rfl⟩
abbrev main_call0_v139 : Ref sig .tc := ⟨.hbm, 206, rfl⟩
abbrev main_call0_c_20 : Ref sig .tc := ⟨.hbm, 207, rfl⟩
abbrev main_call0_v140 : Ref sig .tc := ⟨.hbm, 208, rfl⟩
abbrev main_call0_v141 : Ref sig .tc := ⟨.hbm, 209, rfl⟩
abbrev main_call0_c_21 : Ref sig .tc := ⟨.hbm, 210, rfl⟩
abbrev main_call0_v142 : Ref sig .tc := ⟨.hbm, 211, rfl⟩
abbrev main_call0_c_22 : Ref sig .tc := ⟨.hbm, 212, rfl⟩
abbrev main_call0_v143 : Ref sig .tc := ⟨.hbm, 213, rfl⟩
abbrev main_call0_v144 : Ref sig .tc := ⟨.hbm, 214, rfl⟩
abbrev main_call0_v145 : Ref sig .tc := ⟨.hbm, 215, rfl⟩
abbrev main_call0_v146 : Ref sig .tc := ⟨.hbm, 216, rfl⟩
abbrev main_call0_c_23 : Ref sig .tc := ⟨.hbm, 217, rfl⟩
abbrev main_call0_c_24 : Ref sig .tc := ⟨.hbm, 218, rfl⟩
abbrev main_call0_v147 : Ref sig .tc := ⟨.hbm, 219, rfl⟩
abbrev main_call0_c_25 : Ref sig .tc := ⟨.hbm, 220, rfl⟩
abbrev main_call0_c_26 : Ref sig .tc := ⟨.hbm, 221, rfl⟩
abbrev main_call0_v148 : Ref sig .tc := ⟨.hbm, 222, rfl⟩
abbrev main_call0_c_27 : Ref sig .tc := ⟨.hbm, 223, rfl⟩
abbrev main_call0_v149 : Ref sig .tc := ⟨.hbm, 224, rfl⟩
abbrev main_call0_c_28 : Ref sig .tc := ⟨.hbm, 225, rfl⟩
abbrev main_call0_v150 : Ref sig .tc := ⟨.hbm, 226, rfl⟩
abbrev main_call0_c_29 : Ref sig .tc := ⟨.hbm, 227, rfl⟩
abbrev main_call0_v151 : Ref sig .tc := ⟨.hbm, 228, rfl⟩
abbrev main_call0_v152 : Ref sig .tc := ⟨.hbm, 229, rfl⟩
abbrev main_call0_v153 : Ref sig .tc := ⟨.hbm, 230, rfl⟩
abbrev main_call0_v154 : Ref sig .tc := ⟨.hbm, 231, rfl⟩
abbrev main_call0_c_30 : Ref sig .tc := ⟨.hbm, 232, rfl⟩
abbrev main_call0_v155 : Ref sig .tc := ⟨.hbm, 233, rfl⟩
abbrev main_call0_c_31 : Ref sig .tc := ⟨.hbm, 234, rfl⟩
abbrev main_call0_v156 : Ref sig .tc := ⟨.hbm, 235, rfl⟩
abbrev main_call0_v157 : Ref sig .tc := ⟨.hbm, 236, rfl⟩
abbrev main_call0_c_32 : Ref sig .tc := ⟨.hbm, 237, rfl⟩
abbrev main_call0_c_33 : Ref sig .tc := ⟨.hbm, 238, rfl⟩
abbrev main_call0_v158 : Ref sig .tc := ⟨.hbm, 239, rfl⟩
abbrev main_call0_c_34 : Ref sig .tc := ⟨.hbm, 240, rfl⟩
abbrev main_call0_c_35 : Ref sig .tc := ⟨.hbm, 241, rfl⟩
abbrev main_call0_v159 : Ref sig .tc := ⟨.hbm, 242, rfl⟩
abbrev main_call0_c_36 : Ref sig .tc := ⟨.hbm, 243, rfl⟩
abbrev main_call0_v160 : Ref sig .tc := ⟨.hbm, 244, rfl⟩
abbrev main_call0_v161 : Ref sig .tc := ⟨.hbm, 245, rfl⟩
abbrev main_call0_v162 : Ref sig .tc := ⟨.hbm, 246, rfl⟩
abbrev main_call0_cst_37 : Ref sig .tc := ⟨.hbm, 247, rfl⟩
abbrev main_call0_v163 : Ref sig .tc := ⟨.hbm, 248, rfl⟩
abbrev main_call0_cst_38 : Ref sig .tc := ⟨.hbm, 249, rfl⟩
abbrev main_call0_call5_v0 : Ref sig .tc := ⟨.hbm, 250, rfl⟩
abbrev main_call0_v164 : Ref sig .tc := ⟨.hbm, 251, rfl⟩
abbrev main_call0_v165 : Ref sig .tc := ⟨.hbm, 252, rfl⟩
abbrev main_call0_v166 : Ref sig .tc := ⟨.hbm, 253, rfl⟩
abbrev main_call0_v167 : Ref sig .tc := ⟨.hbm, 254, rfl⟩
abbrev main_call0_v168 : Ref sig .tc := ⟨.hbm, 255, rfl⟩
abbrev main_call0_v169 : Ref sig .tc := ⟨.hbm, 256, rfl⟩
abbrev main_call0_v170 : Ref sig .tc := ⟨.hbm, 257, rfl⟩
abbrev main_call0_v171 : Ref sig .tc := ⟨.hbm, 258, rfl⟩
abbrev main_call0_v172 : Ref sig .tc := ⟨.hbm, 259, rfl⟩
abbrev main_call0_v173 : Ref sig .tc := ⟨.hbm, 260, rfl⟩
abbrev main_call0_v174 : Ref sig .tc := ⟨.hbm, 261, rfl⟩
abbrev main_call0_c_39 : Ref sig .tc := ⟨.hbm, 262, rfl⟩
abbrev main_call0_v175 : Ref sig .tc := ⟨.hbm, 263, rfl⟩
abbrev main_call0_v176 : Ref sig .tc := ⟨.hbm, 264, rfl⟩
abbrev main_call0_v177 : Ref sig .tc := ⟨.hbm, 265, rfl⟩
abbrev main_call0_v178 : Ref sig .tc := ⟨.hbm, 266, rfl⟩
abbrev main_call0_v179 : Ref sig .tc := ⟨.hbm, 267, rfl⟩
abbrev main_call0_v180 : Ref sig .tc := ⟨.hbm, 268, rfl⟩
abbrev main_call0_v181 : Ref sig .tc := ⟨.hbm, 269, rfl⟩
abbrev main_call0_v182 : Ref sig .tc := ⟨.hbm, 270, rfl⟩
abbrev main_call0_c_40 : Ref sig .tc := ⟨.hbm, 271, rfl⟩
abbrev main_call0_v183 : Ref sig .tc := ⟨.hbm, 272, rfl⟩
abbrev main_call0_v184 : Ref sig .tc := ⟨.hbm, 273, rfl⟩
abbrev main_call0_v185 : Ref sig .tc := ⟨.hbm, 274, rfl⟩
abbrev main_call0_v186 : Ref sig .tc := ⟨.hbm, 275, rfl⟩
abbrev main_call0_v187 : Ref sig .tc := ⟨.hbm, 276, rfl⟩
abbrev main_call0_v188 : Ref sig .tc := ⟨.hbm, 277, rfl⟩
abbrev main_call0_v189 : Ref sig .tc := ⟨.hbm, 278, rfl⟩
abbrev main_call0_v190 : Ref sig .tc := ⟨.hbm, 279, rfl⟩
abbrev main_call0_v191 : Ref sig .tc := ⟨.hbm, 280, rfl⟩
abbrev main_call0_c_41 : Ref sig .tc := ⟨.hbm, 281, rfl⟩
abbrev main_call0_v192 : Ref sig .tc := ⟨.hbm, 282, rfl⟩
abbrev main_call0_v193 : Ref sig .tc := ⟨.hbm, 283, rfl⟩
abbrev main_call0_v194 : Ref sig .tc := ⟨.hbm, 284, rfl⟩
abbrev main_call0_v195 : Ref sig .tc := ⟨.hbm, 285, rfl⟩
abbrev main_call0_v196 : Ref sig .tc := ⟨.hbm, 286, rfl⟩
abbrev main_call0_v197 : Ref sig .tc := ⟨.hbm, 287, rfl⟩
abbrev main_call0_v198 : Ref sig .tc := ⟨.hbm, 288, rfl⟩
abbrev main_call0_v199 : Ref sig .tc := ⟨.hbm, 289, rfl⟩
abbrev main_call0_v200 : Ref sig .tc := ⟨.hbm, 290, rfl⟩
abbrev main_call0_v201 : Ref sig .tc := ⟨.hbm, 291, rfl⟩
abbrev main_call0_v202 : Ref sig .tc := ⟨.hbm, 292, rfl⟩
abbrev main_call0_v203 : Ref sig .tc := ⟨.hbm, 293, rfl⟩
abbrev main_call0_v204 : Ref sig .tc := ⟨.hbm, 294, rfl⟩
abbrev main_call0_v205 : Ref sig .tc := ⟨.hbm, 295, rfl⟩
abbrev main_call0_v206 : Ref sig .tc := ⟨.hbm, 296, rfl⟩
abbrev main_call0_c_42 : Ref sig .tc := ⟨.hbm, 297, rfl⟩
abbrev main_call0_v207 : Ref sig .tc := ⟨.hbm, 298, rfl⟩
abbrev main_call0_v208 : Ref sig .tc := ⟨.hbm, 299, rfl⟩
abbrev main_call0_v209 : Ref sig .tc := ⟨.hbm, 300, rfl⟩
abbrev main_call0_v210 : Ref sig .tc := ⟨.hbm, 301, rfl⟩
abbrev main_call0_v211 : Ref sig .tc := ⟨.hbm, 302, rfl⟩
abbrev main_call0_v212 : Ref sig .tc := ⟨.hbm, 303, rfl⟩
abbrev main_call0_v213 : Ref sig .tc := ⟨.hbm, 304, rfl⟩
abbrev main_call0_v214 : Ref sig .tc := ⟨.hbm, 305, rfl⟩
abbrev main_call0_c_43 : Ref sig .tc := ⟨.hbm, 306, rfl⟩
abbrev main_call0_v215 : Ref sig .tc := ⟨.hbm, 307, rfl⟩
abbrev main_call0_v216 : Ref sig .tc := ⟨.hbm, 308, rfl⟩
abbrev main_call0_v217 : Ref sig .tc := ⟨.hbm, 309, rfl⟩
abbrev main_call0_v218 : Ref sig .tc := ⟨.hbm, 310, rfl⟩
abbrev main_call0_v219 : Ref sig .tc := ⟨.hbm, 311, rfl⟩
abbrev main_call0_v220 : Ref sig .tc := ⟨.hbm, 312, rfl⟩
abbrev main_call0_v221 : Ref sig .tc := ⟨.hbm, 313, rfl⟩
abbrev main_call0_v222 : Ref sig .tc := ⟨.hbm, 314, rfl⟩
abbrev main_call0_v223 : Ref sig .tc := ⟨.hbm, 315, rfl⟩
abbrev main_call0_c_44 : Ref sig .tc := ⟨.hbm, 316, rfl⟩
abbrev main_call0_v224 : Ref sig .tc := ⟨.hbm, 317, rfl⟩
abbrev main_call0_v225 : Ref sig .tc := ⟨.hbm, 318, rfl⟩
abbrev main_call0_v226 : Ref sig .tc := ⟨.hbm, 319, rfl⟩
abbrev main_call0_v227 : Ref sig .tc := ⟨.hbm, 320, rfl⟩
abbrev main_call0_v228 : Ref sig .tc := ⟨.hbm, 321, rfl⟩
abbrev main_call0_v229 : Ref sig .tc := ⟨.hbm, 322, rfl⟩
abbrev main_call0_v230 : Ref sig .tc := ⟨.hbm, 323, rfl⟩
abbrev main_call0_v231 : Ref sig .tc := ⟨.hbm, 324, rfl⟩
abbrev main_call0_v232 : Ref sig .tc := ⟨.hbm, 325, rfl⟩
abbrev main_call0_v233 : Ref sig .tc := ⟨.hbm, 326, rfl⟩
abbrev main_call0_call6_v0 : Ref sig .tc := ⟨.hbm, 327, rfl⟩
abbrev main_call0_call6_cst : Ref sig .tc := ⟨.hbm, 328, rfl⟩
abbrev main_call0_call6_c : Ref sig .tc := ⟨.hbm, 329, rfl⟩
abbrev main_call0_call6_v1_0 : Ref sig .tc := ⟨.hbm, 330, rfl⟩
abbrev main_call0_v234 : Ref sig .tc := ⟨.hbm, 331, rfl⟩
abbrev main_call0_c_45 : Ref sig .tc := ⟨.hbm, 332, rfl⟩
abbrev main_call0_call7_v0 : Ref sig .tc := ⟨.hbm, 333, rfl⟩
abbrev main_call0_call7_v1 : Ref sig .tc := ⟨.hbm, 334, rfl⟩
abbrev main_call0_call7_v2 : Ref sig .tc := ⟨.hbm, 335, rfl⟩
abbrev main_call0_call7_v3 : Ref sig .tc := ⟨.hbm, 336, rfl⟩
abbrev main_call0_call7_v4 : Ref sig .tc := ⟨.hbm, 337, rfl⟩
abbrev main_call0_call7_v5 : Ref sig .tc := ⟨.hbm, 338, rfl⟩
abbrev main_call0_call7_c : Ref sig .tc := ⟨.hbm, 339, rfl⟩
abbrev main_call0_call7_v6 : Ref sig .tc := ⟨.hbm, 340, rfl⟩
abbrev main_call0_call7_v7 : Ref sig .tc := ⟨.hbm, 341, rfl⟩
abbrev main_call0_call7_c_0 : Ref sig .tc := ⟨.hbm, 342, rfl⟩
abbrev main_call0_call7_v8 : Ref sig .tc := ⟨.hbm, 343, rfl⟩
abbrev main_call0_v235 : Ref sig .tc := ⟨.hbm, 344, rfl⟩
abbrev main_call0_c_46 : Ref sig .tc := ⟨.hbm, 345, rfl⟩
abbrev main_call0_call8_v0 : Ref sig .tc := ⟨.hbm, 346, rfl⟩
abbrev main_call0_call8_c : Ref sig .tc := ⟨.hbm, 347, rfl⟩
abbrev main_call0_call8_v1 : Ref sig .tc := ⟨.hbm, 348, rfl⟩
abbrev main_call0_call8_c_0 : Ref sig .tc := ⟨.hbm, 349, rfl⟩
abbrev main_call0_call8_v2 : Ref sig .tc := ⟨.hbm, 350, rfl⟩
abbrev main_call0_call8_v3 : Ref sig .tc := ⟨.hbm, 351, rfl⟩
abbrev main_call0_call8_c_1 : Ref sig .tc := ⟨.hbm, 352, rfl⟩
abbrev main_call0_call8_v4 : Ref sig .tc := ⟨.hbm, 353, rfl⟩
abbrev main_call0_call8_c_2 : Ref sig .tc := ⟨.hbm, 354, rfl⟩
abbrev main_call0_call8_v5 : Ref sig .tc := ⟨.hbm, 355, rfl⟩
abbrev main_call0_call8_c_3 : Ref sig .tc := ⟨.hbm, 356, rfl⟩
abbrev main_call0_call8_v6 : Ref sig .tc := ⟨.hbm, 357, rfl⟩
abbrev main_call0_call8_v7 : Ref sig .tc := ⟨.hbm, 358, rfl⟩
abbrev main_call0_call8_v8 : Ref sig .tc := ⟨.hbm, 359, rfl⟩
abbrev main_call0_call8_v9 : Ref sig .tc := ⟨.hbm, 360, rfl⟩
abbrev main_call0_v236 : Ref sig .tc := ⟨.hbm, 361, rfl⟩
abbrev main_call0_c_47 : Ref sig .tc := ⟨.hbm, 362, rfl⟩
abbrev main_call0_v237 : Ref sig .tc := ⟨.hbm, 363, rfl⟩
abbrev main_call0_c_48 : Ref sig .tc := ⟨.hbm, 364, rfl⟩
abbrev main_call0_v238 : Ref sig .tc := ⟨.hbm, 365, rfl⟩
abbrev main_call0_v239 : Ref sig .tc := ⟨.hbm, 366, rfl⟩
abbrev main_call0_c_49 : Ref sig .tc := ⟨.hbm, 367, rfl⟩
abbrev main_call0_v240 : Ref sig .tc := ⟨.hbm, 368, rfl⟩
abbrev main_call0_c_50 : Ref sig .tc := ⟨.hbm, 369, rfl⟩
abbrev main_call0_v241 : Ref sig .tc := ⟨.hbm, 370, rfl⟩
abbrev main_call0_v242 : Ref sig .tc := ⟨.hbm, 371, rfl⟩
abbrev main_call0_v243 : Ref sig .tc := ⟨.hbm, 372, rfl⟩
abbrev main_call0_v244 : Ref sig .tc := ⟨.hbm, 373, rfl⟩
abbrev main_call0_c_51 : Ref sig .tc := ⟨.hbm, 374, rfl⟩
abbrev main_call0_c_52 : Ref sig .tc := ⟨.hbm, 375, rfl⟩
abbrev main_call0_v245 : Ref sig .tc := ⟨.hbm, 376, rfl⟩
abbrev main_call0_c_53 : Ref sig .tc := ⟨.hbm, 377, rfl⟩
abbrev main_call0_c_54 : Ref sig .tc := ⟨.hbm, 378, rfl⟩
abbrev main_call0_v246 : Ref sig .tc := ⟨.hbm, 379, rfl⟩
abbrev main_call0_c_55 : Ref sig .tc := ⟨.hbm, 380, rfl⟩
abbrev main_call0_v247 : Ref sig .tc := ⟨.hbm, 381, rfl⟩
abbrev main_call0_c_56 : Ref sig .tc := ⟨.hbm, 382, rfl⟩
abbrev main_call0_v248 : Ref sig .tc := ⟨.hbm, 383, rfl⟩
abbrev main_call0_c_57 : Ref sig .tc := ⟨.hbm, 384, rfl⟩
abbrev main_call0_v249 : Ref sig .tc := ⟨.hbm, 385, rfl⟩
abbrev main_call0_v250 : Ref sig .tc := ⟨.hbm, 386, rfl⟩
abbrev main_call0_v251 : Ref sig .tc := ⟨.hbm, 387, rfl⟩
abbrev main_call0_v252 : Ref sig .tc := ⟨.hbm, 388, rfl⟩
abbrev main_call0_c_58 : Ref sig .tc := ⟨.hbm, 389, rfl⟩
abbrev main_call0_v253 : Ref sig .tc := ⟨.hbm, 390, rfl⟩
abbrev main_call0_c_59 : Ref sig .tc := ⟨.hbm, 391, rfl⟩
abbrev main_call0_v254 : Ref sig .tc := ⟨.hbm, 392, rfl⟩
abbrev main_call0_v255 : Ref sig .tc := ⟨.hbm, 393, rfl⟩
abbrev main_call0_c_60 : Ref sig .tc := ⟨.hbm, 394, rfl⟩
abbrev main_call0_c_61 : Ref sig .tc := ⟨.hbm, 395, rfl⟩
abbrev main_call0_v256 : Ref sig .tc := ⟨.hbm, 396, rfl⟩
abbrev main_call0_c_62 : Ref sig .tc := ⟨.hbm, 397, rfl⟩
abbrev main_call0_c_63 : Ref sig .tc := ⟨.hbm, 398, rfl⟩
abbrev main_call0_v257 : Ref sig .tc := ⟨.hbm, 399, rfl⟩
abbrev main_call0_c_64 : Ref sig .tc := ⟨.hbm, 400, rfl⟩
abbrev main_call0_v258 : Ref sig .tc := ⟨.hbm, 401, rfl⟩
abbrev main_call0_v259 : Ref sig .tc := ⟨.hbm, 402, rfl⟩
abbrev main_call0_v260 : Ref sig .tc := ⟨.hbm, 403, rfl⟩
abbrev main_call0_cst_65 : Ref sig .tc := ⟨.hbm, 404, rfl⟩
abbrev main_call0_v261 : Ref sig .tc := ⟨.hbm, 405, rfl⟩
abbrev main_call0_cst_66 : Ref sig .tc := ⟨.hbm, 406, rfl⟩
abbrev main_call0_call9_v0 : Ref sig .tc := ⟨.hbm, 407, rfl⟩
abbrev main_call0_v262 : Ref sig .tc := ⟨.hbm, 408, rfl⟩
abbrev main_call0_v263 : Ref sig .tc := ⟨.hbm, 409, rfl⟩
abbrev main_call0_v264 : Ref sig .tc := ⟨.hbm, 410, rfl⟩
abbrev main_call0_v265 : Ref sig .tc := ⟨.hbm, 411, rfl⟩
abbrev main_call0_v266 : Ref sig .tc := ⟨.hbm, 412, rfl⟩
abbrev main_call0_v267 : Ref sig .tc := ⟨.hbm, 413, rfl⟩
abbrev main_call0_v268 : Ref sig .tc := ⟨.hbm, 414, rfl⟩
abbrev main_call0_v269 : Ref sig .tc := ⟨.hbm, 415, rfl⟩
abbrev main_call0_v270 : Ref sig .tc := ⟨.hbm, 416, rfl⟩
abbrev main_call0_v271 : Ref sig .tc := ⟨.hbm, 417, rfl⟩
abbrev main_call0_v272 : Ref sig .tc := ⟨.hbm, 418, rfl⟩
abbrev main_call0_c_67 : Ref sig .tc := ⟨.hbm, 419, rfl⟩
abbrev main_call0_v273 : Ref sig .tc := ⟨.hbm, 420, rfl⟩
abbrev main_call0_v274 : Ref sig .tc := ⟨.hbm, 421, rfl⟩
abbrev main_call0_v275 : Ref sig .tc := ⟨.hbm, 422, rfl⟩
abbrev main_call0_v276 : Ref sig .tc := ⟨.hbm, 423, rfl⟩
abbrev main_call0_v277 : Ref sig .tc := ⟨.hbm, 424, rfl⟩
abbrev main_call0_v278 : Ref sig .tc := ⟨.hbm, 425, rfl⟩
abbrev main_call0_v279 : Ref sig .tc := ⟨.hbm, 426, rfl⟩
abbrev main_call0_v280 : Ref sig .tc := ⟨.hbm, 427, rfl⟩
abbrev main_call0_c_68 : Ref sig .tc := ⟨.hbm, 428, rfl⟩
abbrev main_call0_v281 : Ref sig .tc := ⟨.hbm, 429, rfl⟩
abbrev main_call0_v282 : Ref sig .tc := ⟨.hbm, 430, rfl⟩
abbrev main_call0_v283 : Ref sig .tc := ⟨.hbm, 431, rfl⟩
abbrev main_call0_v284 : Ref sig .tc := ⟨.hbm, 432, rfl⟩
abbrev main_call0_v285 : Ref sig .tc := ⟨.hbm, 433, rfl⟩
abbrev main_call0_v286 : Ref sig .tc := ⟨.hbm, 434, rfl⟩
abbrev main_call0_v287 : Ref sig .tc := ⟨.hbm, 435, rfl⟩
abbrev main_call0_v288 : Ref sig .tc := ⟨.hbm, 436, rfl⟩
abbrev main_call0_v289 : Ref sig .tc := ⟨.hbm, 437, rfl⟩
abbrev main_call0_c_69 : Ref sig .tc := ⟨.hbm, 438, rfl⟩
abbrev main_call0_v290 : Ref sig .tc := ⟨.hbm, 439, rfl⟩
abbrev main_call0_v291 : Ref sig .tc := ⟨.hbm, 440, rfl⟩
abbrev main_call0_v292 : Ref sig .tc := ⟨.hbm, 441, rfl⟩
abbrev main_call0_v293 : Ref sig .tc := ⟨.hbm, 442, rfl⟩
abbrev main_call0_v294 : Ref sig .tc := ⟨.hbm, 443, rfl⟩
abbrev main_call0_v295 : Ref sig .tc := ⟨.hbm, 444, rfl⟩
abbrev main_call0_v296 : Ref sig .tc := ⟨.hbm, 445, rfl⟩
abbrev main_call0_v297 : Ref sig .tc := ⟨.hbm, 446, rfl⟩
abbrev main_call0_v298 : Ref sig .tc := ⟨.hbm, 447, rfl⟩
abbrev main_call0_v299 : Ref sig .tc := ⟨.hbm, 448, rfl⟩
abbrev main_call0_v300 : Ref sig .tc := ⟨.hbm, 449, rfl⟩
abbrev main_call0_v301 : Ref sig .tc := ⟨.hbm, 450, rfl⟩
abbrev main_call0_v302 : Ref sig .tc := ⟨.hbm, 451, rfl⟩
abbrev main_call0_v303 : Ref sig .tc := ⟨.hbm, 452, rfl⟩
abbrev main_call0_v304 : Ref sig .tc := ⟨.hbm, 453, rfl⟩
abbrev main_call0_c_70 : Ref sig .tc := ⟨.hbm, 454, rfl⟩
abbrev main_call0_v305 : Ref sig .tc := ⟨.hbm, 455, rfl⟩
abbrev main_call0_v306 : Ref sig .tc := ⟨.hbm, 456, rfl⟩
abbrev main_call0_v307 : Ref sig .tc := ⟨.hbm, 457, rfl⟩
abbrev main_call0_v308 : Ref sig .tc := ⟨.hbm, 458, rfl⟩
abbrev main_call0_v309 : Ref sig .tc := ⟨.hbm, 459, rfl⟩
abbrev main_call0_v310 : Ref sig .tc := ⟨.hbm, 460, rfl⟩
abbrev main_call0_v311 : Ref sig .tc := ⟨.hbm, 461, rfl⟩
abbrev main_call0_v312 : Ref sig .tc := ⟨.hbm, 462, rfl⟩
abbrev main_call0_c_71 : Ref sig .tc := ⟨.hbm, 463, rfl⟩
abbrev main_call0_v313 : Ref sig .tc := ⟨.hbm, 464, rfl⟩
abbrev main_call0_v314 : Ref sig .tc := ⟨.hbm, 465, rfl⟩
abbrev main_call0_v315 : Ref sig .tc := ⟨.hbm, 466, rfl⟩
abbrev main_call0_v316 : Ref sig .tc := ⟨.hbm, 467, rfl⟩
abbrev main_call0_v317 : Ref sig .tc := ⟨.hbm, 468, rfl⟩
abbrev main_call0_v318 : Ref sig .tc := ⟨.hbm, 469, rfl⟩
abbrev main_call0_v319 : Ref sig .tc := ⟨.hbm, 470, rfl⟩
abbrev main_call0_v320 : Ref sig .tc := ⟨.hbm, 471, rfl⟩
abbrev main_call0_v321 : Ref sig .tc := ⟨.hbm, 472, rfl⟩
abbrev main_call0_c_72 : Ref sig .tc := ⟨.hbm, 473, rfl⟩
abbrev main_call0_v322 : Ref sig .tc := ⟨.hbm, 474, rfl⟩
abbrev main_call0_v323 : Ref sig .tc := ⟨.hbm, 475, rfl⟩
abbrev main_call0_v324 : Ref sig .tc := ⟨.hbm, 476, rfl⟩
abbrev main_call0_v325 : Ref sig .tc := ⟨.hbm, 477, rfl⟩
abbrev main_call0_v326 : Ref sig .tc := ⟨.hbm, 478, rfl⟩
abbrev main_call0_v327 : Ref sig .tc := ⟨.hbm, 479, rfl⟩
abbrev main_call0_v328 : Ref sig .tc := ⟨.hbm, 480, rfl⟩
abbrev main_call0_v329 : Ref sig .tc := ⟨.hbm, 481, rfl⟩
abbrev main_call0_v330 : Ref sig .tc := ⟨.hbm, 482, rfl⟩
abbrev main_call0_v331 : Ref sig .tc := ⟨.hbm, 483, rfl⟩
abbrev main_call0_v332 : Ref sig .tc := ⟨.hbm, 484, rfl⟩
abbrev main_call0_v333 : Ref sig .tc := ⟨.hbm, 485, rfl⟩
abbrev main_call0_call10_v0 : Ref sig .tc := ⟨.hbm, 486, rfl⟩
abbrev main_call0_call10_cst : Ref sig .tc := ⟨.hbm, 487, rfl⟩
abbrev main_call0_call10_c : Ref sig .tc := ⟨.hbm, 488, rfl⟩
abbrev main_call0_call10_v1_0 : Ref sig .tc := ⟨.hbm, 489, rfl⟩
abbrev main_call0_v334 : Ref sig .tc := ⟨.hbm, 490, rfl⟩
abbrev main_call0_c_73 : Ref sig .tc := ⟨.hbm, 491, rfl⟩
abbrev main_call0_call11_v0 : Ref sig .tc := ⟨.hbm, 492, rfl⟩
abbrev main_call0_call11_v1 : Ref sig .tc := ⟨.hbm, 493, rfl⟩
abbrev main_call0_call11_v2 : Ref sig .tc := ⟨.hbm, 494, rfl⟩
abbrev main_call0_call11_v3 : Ref sig .tc := ⟨.hbm, 495, rfl⟩
abbrev main_call0_call11_v4 : Ref sig .tc := ⟨.hbm, 496, rfl⟩
abbrev main_call0_call11_v5 : Ref sig .tc := ⟨.hbm, 497, rfl⟩
abbrev main_call0_call11_c : Ref sig .tc := ⟨.hbm, 498, rfl⟩
abbrev main_call0_call11_v6 : Ref sig .tc := ⟨.hbm, 499, rfl⟩
abbrev main_call0_call11_v7 : Ref sig .tc := ⟨.hbm, 500, rfl⟩
abbrev main_call0_call11_c_0 : Ref sig .tc := ⟨.hbm, 501, rfl⟩
abbrev main_call0_call11_v8 : Ref sig .tc := ⟨.hbm, 502, rfl⟩
abbrev main_call0_v335 : Ref sig .tc := ⟨.hbm, 503, rfl⟩
abbrev main_call0_c_74 : Ref sig .tc := ⟨.hbm, 504, rfl⟩
abbrev main_call0_call12_v0 : Ref sig .tc := ⟨.hbm, 505, rfl⟩
abbrev main_call0_call12_c : Ref sig .tc := ⟨.hbm, 506, rfl⟩
abbrev main_call0_call12_v1 : Ref sig .tc := ⟨.hbm, 507, rfl⟩
abbrev main_call0_call12_c_0 : Ref sig .tc := ⟨.hbm, 508, rfl⟩
abbrev main_call0_call12_v2 : Ref sig .tc := ⟨.hbm, 509, rfl⟩
abbrev main_call0_call12_v3 : Ref sig .tc := ⟨.hbm, 510, rfl⟩
abbrev main_call0_call12_c_1 : Ref sig .tc := ⟨.hbm, 511, rfl⟩
abbrev main_call0_call12_v4 : Ref sig .tc := ⟨.hbm, 512, rfl⟩
abbrev main_call0_call12_c_2 : Ref sig .tc := ⟨.hbm, 513, rfl⟩
abbrev main_call0_call12_v5 : Ref sig .tc := ⟨.hbm, 514, rfl⟩
abbrev main_call0_call12_c_3 : Ref sig .tc := ⟨.hbm, 515, rfl⟩
abbrev main_call0_call12_v6 : Ref sig .tc := ⟨.hbm, 516, rfl⟩
abbrev main_call0_call12_v7 : Ref sig .tc := ⟨.hbm, 517, rfl⟩
abbrev main_call0_call12_v8 : Ref sig .tc := ⟨.hbm, 518, rfl⟩
abbrev main_call0_call12_v9 : Ref sig .tc := ⟨.hbm, 519, rfl⟩
abbrev main_call0_v336 : Ref sig .tc := ⟨.hbm, 520, rfl⟩
abbrev main_call0_c_75 : Ref sig .tc := ⟨.hbm, 521, rfl⟩
abbrev main_call0_v337 : Ref sig .tc := ⟨.hbm, 522, rfl⟩
abbrev main_call0_c_76 : Ref sig .tc := ⟨.hbm, 523, rfl⟩
abbrev main_call0_v338 : Ref sig .tc := ⟨.hbm, 524, rfl⟩
abbrev main_call0_v339 : Ref sig .tc := ⟨.hbm, 525, rfl⟩
abbrev main_call0_c_77 : Ref sig .tc := ⟨.hbm, 526, rfl⟩
abbrev main_call0_v340 : Ref sig .tc := ⟨.hbm, 527, rfl⟩
abbrev main_call0_c_78 : Ref sig .tc := ⟨.hbm, 528, rfl⟩
abbrev main_call0_v341 : Ref sig .tc := ⟨.hbm, 529, rfl⟩
abbrev main_call0_v342 : Ref sig .tc := ⟨.hbm, 530, rfl⟩
abbrev main_call0_v343 : Ref sig .tc := ⟨.hbm, 531, rfl⟩
abbrev main_call0_v344 : Ref sig .tc := ⟨.hbm, 532, rfl⟩
abbrev main_call0_c_79 : Ref sig .tc := ⟨.hbm, 533, rfl⟩
abbrev main_call0_c_80 : Ref sig .tc := ⟨.hbm, 534, rfl⟩
abbrev main_call0_v345 : Ref sig .tc := ⟨.hbm, 535, rfl⟩
abbrev main_call0_c_81 : Ref sig .tc := ⟨.hbm, 536, rfl⟩
abbrev main_call0_c_82 : Ref sig .tc := ⟨.hbm, 537, rfl⟩
abbrev main_call0_v346 : Ref sig .tc := ⟨.hbm, 538, rfl⟩
abbrev main_call0_c_83 : Ref sig .tc := ⟨.hbm, 539, rfl⟩
abbrev main_call0_v347 : Ref sig .tc := ⟨.hbm, 540, rfl⟩
abbrev main_call0_c_84 : Ref sig .tc := ⟨.hbm, 541, rfl⟩
abbrev main_call0_v348 : Ref sig .tc := ⟨.hbm, 542, rfl⟩
abbrev main_call0_c_85 : Ref sig .tc := ⟨.hbm, 543, rfl⟩
abbrev main_call0_v349 : Ref sig .tc := ⟨.hbm, 544, rfl⟩
abbrev main_call0_v350 : Ref sig .tc := ⟨.hbm, 545, rfl⟩
abbrev main_call0_v351 : Ref sig .tc := ⟨.hbm, 546, rfl⟩
abbrev main_call0_v352 : Ref sig .tc := ⟨.hbm, 547, rfl⟩
abbrev main_call0_c_86 : Ref sig .tc := ⟨.hbm, 548, rfl⟩
abbrev main_call0_v353 : Ref sig .tc := ⟨.hbm, 549, rfl⟩
abbrev main_call0_c_87 : Ref sig .tc := ⟨.hbm, 550, rfl⟩
abbrev main_call0_v354 : Ref sig .tc := ⟨.hbm, 551, rfl⟩
abbrev main_call0_v355 : Ref sig .tc := ⟨.hbm, 552, rfl⟩
abbrev main_call0_c_88 : Ref sig .tc := ⟨.hbm, 553, rfl⟩
abbrev main_call0_c_89 : Ref sig .tc := ⟨.hbm, 554, rfl⟩
abbrev main_call0_v356 : Ref sig .tc := ⟨.hbm, 555, rfl⟩
abbrev main_call0_c_90 : Ref sig .tc := ⟨.hbm, 556, rfl⟩
abbrev main_call0_c_91 : Ref sig .tc := ⟨.hbm, 557, rfl⟩
abbrev main_call0_v357 : Ref sig .tc := ⟨.hbm, 558, rfl⟩
abbrev main_call0_c_92 : Ref sig .tc := ⟨.hbm, 559, rfl⟩
abbrev main_call0_v358 : Ref sig .tc := ⟨.hbm, 560, rfl⟩
abbrev main_call0_v359 : Ref sig .tc := ⟨.hbm, 561, rfl⟩
abbrev main_call0_v360 : Ref sig .tc := ⟨.hbm, 562, rfl⟩
abbrev main_call0_cst_93 : Ref sig .tc := ⟨.hbm, 563, rfl⟩
abbrev main_call0_v361 : Ref sig .tc := ⟨.hbm, 564, rfl⟩
abbrev main_call0_cst_94 : Ref sig .tc := ⟨.hbm, 565, rfl⟩
abbrev main_call0_call13_v0 : Ref sig .tc := ⟨.hbm, 566, rfl⟩
abbrev main_call0_v362 : Ref sig .tc := ⟨.hbm, 567, rfl⟩
abbrev main_call0_v363 : Ref sig .tc := ⟨.hbm, 568, rfl⟩
abbrev main_call0_v364 : Ref sig .tc := ⟨.hbm, 569, rfl⟩
abbrev main_call0_v365 : Ref sig .tc := ⟨.hbm, 570, rfl⟩
abbrev main_call0_v366 : Ref sig .tc := ⟨.hbm, 571, rfl⟩
abbrev main_call0_v367 : Ref sig .tc := ⟨.hbm, 572, rfl⟩
abbrev main_call0_v368 : Ref sig .tc := ⟨.hbm, 573, rfl⟩
abbrev main_call0_v369 : Ref sig .tc := ⟨.hbm, 574, rfl⟩
abbrev main_call0_v370 : Ref sig .tc := ⟨.hbm, 575, rfl⟩
abbrev main_call0_v371 : Ref sig .tc := ⟨.hbm, 576, rfl⟩
abbrev main_call0_v372 : Ref sig .tc := ⟨.hbm, 577, rfl⟩
abbrev main_call0_c_95 : Ref sig .tc := ⟨.hbm, 578, rfl⟩
abbrev main_call0_v373 : Ref sig .tc := ⟨.hbm, 579, rfl⟩
abbrev main_call0_v374 : Ref sig .tc := ⟨.hbm, 580, rfl⟩
abbrev main_call0_v375 : Ref sig .tc := ⟨.hbm, 581, rfl⟩
abbrev main_call0_v376 : Ref sig .tc := ⟨.hbm, 582, rfl⟩
abbrev main_call0_v377 : Ref sig .tc := ⟨.hbm, 583, rfl⟩
abbrev main_call0_v378 : Ref sig .tc := ⟨.hbm, 584, rfl⟩
abbrev main_call0_v379 : Ref sig .tc := ⟨.hbm, 585, rfl⟩
abbrev main_call0_v380 : Ref sig .tc := ⟨.hbm, 586, rfl⟩
abbrev main_call0_c_96 : Ref sig .tc := ⟨.hbm, 587, rfl⟩
abbrev main_call0_v381 : Ref sig .tc := ⟨.hbm, 588, rfl⟩
abbrev main_call0_v382 : Ref sig .tc := ⟨.hbm, 589, rfl⟩
abbrev main_call0_v383 : Ref sig .tc := ⟨.hbm, 590, rfl⟩
abbrev main_call0_v384 : Ref sig .tc := ⟨.hbm, 591, rfl⟩
abbrev main_call0_v385 : Ref sig .tc := ⟨.hbm, 592, rfl⟩
abbrev main_call0_v386 : Ref sig .tc := ⟨.hbm, 593, rfl⟩
abbrev main_call0_v387 : Ref sig .tc := ⟨.hbm, 594, rfl⟩
abbrev main_call0_v388 : Ref sig .tc := ⟨.hbm, 595, rfl⟩
abbrev main_call0_v389 : Ref sig .tc := ⟨.hbm, 596, rfl⟩
abbrev main_call0_c_97 : Ref sig .tc := ⟨.hbm, 597, rfl⟩
abbrev main_call0_v390 : Ref sig .tc := ⟨.hbm, 598, rfl⟩
abbrev main_call0_v391 : Ref sig .tc := ⟨.hbm, 599, rfl⟩
abbrev main_call0_v392 : Ref sig .tc := ⟨.hbm, 600, rfl⟩
abbrev main_call0_v393 : Ref sig .tc := ⟨.hbm, 601, rfl⟩
abbrev main_call0_v394 : Ref sig .tc := ⟨.hbm, 602, rfl⟩
abbrev main_call0_v395 : Ref sig .tc := ⟨.hbm, 603, rfl⟩
abbrev main_call0_v396 : Ref sig .tc := ⟨.hbm, 604, rfl⟩
abbrev main_call0_v397 : Ref sig .tc := ⟨.hbm, 605, rfl⟩
abbrev main_call0_v398 : Ref sig .tc := ⟨.hbm, 606, rfl⟩
abbrev main_call0_v399 : Ref sig .tc := ⟨.hbm, 607, rfl⟩
abbrev main_call0_v400 : Ref sig .tc := ⟨.hbm, 608, rfl⟩
abbrev main_call0_v401 : Ref sig .tc := ⟨.hbm, 609, rfl⟩
abbrev main_call0_v402 : Ref sig .tc := ⟨.hbm, 610, rfl⟩
abbrev main_call0_v403 : Ref sig .tc := ⟨.hbm, 611, rfl⟩
abbrev main_call0_v404 : Ref sig .tc := ⟨.hbm, 612, rfl⟩
abbrev main_call0_c_98 : Ref sig .tc := ⟨.hbm, 613, rfl⟩
abbrev main_call0_v405 : Ref sig .tc := ⟨.hbm, 614, rfl⟩
abbrev main_call0_v406 : Ref sig .tc := ⟨.hbm, 615, rfl⟩
abbrev main_call0_v407 : Ref sig .tc := ⟨.hbm, 616, rfl⟩
abbrev main_call0_v408 : Ref sig .tc := ⟨.hbm, 617, rfl⟩
abbrev main_call0_v409 : Ref sig .tc := ⟨.hbm, 618, rfl⟩
abbrev main_call0_v410 : Ref sig .tc := ⟨.hbm, 619, rfl⟩
abbrev main_call0_v411 : Ref sig .tc := ⟨.hbm, 620, rfl⟩
abbrev main_call0_v412 : Ref sig .tc := ⟨.hbm, 621, rfl⟩
abbrev main_call0_c_99 : Ref sig .tc := ⟨.hbm, 622, rfl⟩
abbrev main_call0_v413 : Ref sig .tc := ⟨.hbm, 623, rfl⟩
abbrev main_call0_v414 : Ref sig .tc := ⟨.hbm, 624, rfl⟩
abbrev main_call0_v415 : Ref sig .tc := ⟨.hbm, 625, rfl⟩
abbrev main_call0_v416 : Ref sig .tc := ⟨.hbm, 626, rfl⟩
abbrev main_call0_v417 : Ref sig .tc := ⟨.hbm, 627, rfl⟩
abbrev main_call0_v418 : Ref sig .tc := ⟨.hbm, 628, rfl⟩
abbrev main_call0_v419 : Ref sig .tc := ⟨.hbm, 629, rfl⟩
abbrev main_call0_v420 : Ref sig .tc := ⟨.hbm, 630, rfl⟩
abbrev main_call0_v421 : Ref sig .tc := ⟨.hbm, 631, rfl⟩
abbrev main_call0_c_100 : Ref sig .tc := ⟨.hbm, 632, rfl⟩
abbrev main_call0_v422 : Ref sig .tc := ⟨.hbm, 633, rfl⟩
abbrev main_call0_v423 : Ref sig .tc := ⟨.hbm, 634, rfl⟩
abbrev main_call0_v424 : Ref sig .tc := ⟨.hbm, 635, rfl⟩
abbrev main_call0_v425 : Ref sig .tc := ⟨.hbm, 636, rfl⟩
abbrev main_call0_v426 : Ref sig .tc := ⟨.hbm, 637, rfl⟩
abbrev main_call0_v427 : Ref sig .tc := ⟨.hbm, 638, rfl⟩
abbrev main_call0_v428 : Ref sig .tc := ⟨.hbm, 639, rfl⟩
abbrev main_call0_v429 : Ref sig .tc := ⟨.hbm, 640, rfl⟩
abbrev main_call0_v430 : Ref sig .tc := ⟨.hbm, 641, rfl⟩
abbrev main_call0_v431 : Ref sig .tc := ⟨.hbm, 642, rfl⟩
abbrev main_call0_v432 : Ref sig .tc := ⟨.hbm, 643, rfl⟩
abbrev main_call0_v433 : Ref sig .tc := ⟨.hbm, 644, rfl⟩
abbrev main_call0_call14_v0 : Ref sig .tc := ⟨.hbm, 645, rfl⟩
abbrev main_call0_call14_cst : Ref sig .tc := ⟨.hbm, 646, rfl⟩
abbrev main_call0_call14_c : Ref sig .tc := ⟨.hbm, 647, rfl⟩
abbrev main_call0_call14_v1_0 : Ref sig .tc := ⟨.hbm, 648, rfl⟩
abbrev main_call0_v434 : Ref sig .tc := ⟨.hbm, 649, rfl⟩
abbrev main_call0_c_101 : Ref sig .tc := ⟨.hbm, 650, rfl⟩
abbrev main_call0_call15_v0 : Ref sig .tc := ⟨.hbm, 651, rfl⟩
abbrev main_call0_call15_v1 : Ref sig .tc := ⟨.hbm, 652, rfl⟩
abbrev main_call0_call15_v2 : Ref sig .tc := ⟨.hbm, 653, rfl⟩
abbrev main_call0_call15_v3 : Ref sig .tc := ⟨.hbm, 654, rfl⟩
abbrev main_call0_call15_v4 : Ref sig .tc := ⟨.hbm, 655, rfl⟩
abbrev main_call0_call15_v5 : Ref sig .tc := ⟨.hbm, 656, rfl⟩
abbrev main_call0_call15_c : Ref sig .tc := ⟨.hbm, 657, rfl⟩
abbrev main_call0_call15_v6 : Ref sig .tc := ⟨.hbm, 658, rfl⟩
abbrev main_call0_call15_v7 : Ref sig .tc := ⟨.hbm, 659, rfl⟩
abbrev main_call0_call15_c_0 : Ref sig .tc := ⟨.hbm, 660, rfl⟩
abbrev main_call0_call15_v8 : Ref sig .tc := ⟨.hbm, 661, rfl⟩
abbrev main_call0_v435 : Ref sig .tc := ⟨.hbm, 662, rfl⟩
abbrev main_call0_c_102 : Ref sig .tc := ⟨.hbm, 663, rfl⟩
abbrev main_call0_call16_v0 : Ref sig .tc := ⟨.hbm, 664, rfl⟩
abbrev main_call0_call16_c : Ref sig .tc := ⟨.hbm, 665, rfl⟩
abbrev main_call0_call16_v1 : Ref sig .tc := ⟨.hbm, 666, rfl⟩
abbrev main_call0_call16_c_0 : Ref sig .tc := ⟨.hbm, 667, rfl⟩
abbrev main_call0_call16_v2 : Ref sig .tc := ⟨.hbm, 668, rfl⟩
abbrev main_call0_call16_v3 : Ref sig .tc := ⟨.hbm, 669, rfl⟩
abbrev main_call0_call16_c_1 : Ref sig .tc := ⟨.hbm, 670, rfl⟩
abbrev main_call0_call16_v4 : Ref sig .tc := ⟨.hbm, 671, rfl⟩
abbrev main_call0_call16_c_2 : Ref sig .tc := ⟨.hbm, 672, rfl⟩
abbrev main_call0_call16_v5 : Ref sig .tc := ⟨.hbm, 673, rfl⟩
abbrev main_call0_call16_c_3 : Ref sig .tc := ⟨.hbm, 674, rfl⟩
abbrev main_call0_call16_v6 : Ref sig .tc := ⟨.hbm, 675, rfl⟩
abbrev main_call0_call16_v7 : Ref sig .tc := ⟨.hbm, 676, rfl⟩
abbrev main_call0_call16_v8 : Ref sig .tc := ⟨.hbm, 677, rfl⟩
abbrev main_call0_call16_v9 : Ref sig .tc := ⟨.hbm, 678, rfl⟩
abbrev main_call0_v436 : Ref sig .tc := ⟨.hbm, 679, rfl⟩
abbrev main_call0_c_103 : Ref sig .tc := ⟨.hbm, 680, rfl⟩
abbrev main_call0_v437 : Ref sig .tc := ⟨.hbm, 681, rfl⟩
abbrev main_call0_c_104 : Ref sig .tc := ⟨.hbm, 682, rfl⟩
abbrev main_call0_v438 : Ref sig .tc := ⟨.hbm, 683, rfl⟩
abbrev main_call0_v439 : Ref sig .tc := ⟨.hbm, 684, rfl⟩
abbrev main_call0_c_105 : Ref sig .tc := ⟨.hbm, 685, rfl⟩
abbrev main_call0_v440 : Ref sig .tc := ⟨.hbm, 686, rfl⟩
abbrev main_call0_c_106 : Ref sig .tc := ⟨.hbm, 687, rfl⟩
abbrev main_call0_v441 : Ref sig .tc := ⟨.hbm, 688, rfl⟩
abbrev main_call0_v442 : Ref sig .tc := ⟨.hbm, 689, rfl⟩
abbrev main_call0_v443 : Ref sig .tc := ⟨.hbm, 690, rfl⟩
abbrev main_call0_v444 : Ref sig .tc := ⟨.hbm, 691, rfl⟩
abbrev main_call0_c_107 : Ref sig .tc := ⟨.hbm, 692, rfl⟩
abbrev main_call0_c_108 : Ref sig .tc := ⟨.hbm, 693, rfl⟩
abbrev main_call0_v445 : Ref sig .tc := ⟨.hbm, 694, rfl⟩
abbrev main_call0_c_109 : Ref sig .tc := ⟨.hbm, 695, rfl⟩
abbrev main_call0_c_110 : Ref sig .tc := ⟨.hbm, 696, rfl⟩
abbrev main_call0_v446 : Ref sig .tc := ⟨.hbm, 697, rfl⟩
abbrev main_call0_c_111 : Ref sig .tc := ⟨.hbm, 698, rfl⟩
abbrev main_call0_v447 : Ref sig .tc := ⟨.hbm, 699, rfl⟩
abbrev main_call0_c_112 : Ref sig .tc := ⟨.hbm, 700, rfl⟩
abbrev main_call0_v448 : Ref sig .tc := ⟨.hbm, 701, rfl⟩
abbrev main_call0_c_113 : Ref sig .tc := ⟨.hbm, 702, rfl⟩
abbrev main_call0_v449 : Ref sig .tc := ⟨.hbm, 703, rfl⟩
abbrev main_call0_v450 : Ref sig .tc := ⟨.hbm, 704, rfl⟩
abbrev main_call0_v451 : Ref sig .tc := ⟨.hbm, 705, rfl⟩
abbrev main_call0_v452 : Ref sig .tc := ⟨.hbm, 706, rfl⟩
abbrev main_call0_c_114 : Ref sig .tc := ⟨.hbm, 707, rfl⟩
abbrev main_call0_v453 : Ref sig .tc := ⟨.hbm, 708, rfl⟩
abbrev main_call0_c_115 : Ref sig .tc := ⟨.hbm, 709, rfl⟩
abbrev main_call0_v454 : Ref sig .tc := ⟨.hbm, 710, rfl⟩
abbrev main_call0_v455 : Ref sig .tc := ⟨.hbm, 711, rfl⟩
abbrev main_call0_c_116 : Ref sig .tc := ⟨.hbm, 712, rfl⟩
abbrev main_call0_c_117 : Ref sig .tc := ⟨.hbm, 713, rfl⟩
abbrev main_call0_v456 : Ref sig .tc := ⟨.hbm, 714, rfl⟩
abbrev main_call0_c_118 : Ref sig .tc := ⟨.hbm, 715, rfl⟩
abbrev main_call0_c_119 : Ref sig .tc := ⟨.hbm, 716, rfl⟩
abbrev main_call0_v457 : Ref sig .tc := ⟨.hbm, 717, rfl⟩
abbrev main_call0_c_120 : Ref sig .tc := ⟨.hbm, 718, rfl⟩
abbrev main_call0_v458 : Ref sig .tc := ⟨.hbm, 719, rfl⟩
abbrev main_call0_v459 : Ref sig .tc := ⟨.hbm, 720, rfl⟩
abbrev main_call0_v460 : Ref sig .tc := ⟨.hbm, 721, rfl⟩
abbrev main_call0_cst_121 : Ref sig .tc := ⟨.hbm, 722, rfl⟩
abbrev main_call0_v461 : Ref sig .tc := ⟨.hbm, 723, rfl⟩
abbrev main_call0_cst_122 : Ref sig .tc := ⟨.hbm, 724, rfl⟩
abbrev main_call0_call17_v0 : Ref sig .tc := ⟨.hbm, 725, rfl⟩
abbrev main_call0_v462 : Ref sig .tc := ⟨.hbm, 726, rfl⟩
abbrev main_call0_v463 : Ref sig .tc := ⟨.hbm, 727, rfl⟩
abbrev main_call0_v464 : Ref sig .tc := ⟨.hbm, 728, rfl⟩
abbrev main_call0_v465 : Ref sig .tc := ⟨.hbm, 729, rfl⟩
abbrev main_call0_v466 : Ref sig .tc := ⟨.hbm, 730, rfl⟩
abbrev main_call0_v467 : Ref sig .tc := ⟨.hbm, 731, rfl⟩
abbrev main_call0_v468 : Ref sig .tc := ⟨.hbm, 732, rfl⟩
abbrev main_call0_v469 : Ref sig .tc := ⟨.hbm, 733, rfl⟩
abbrev main_call0_v470 : Ref sig .tc := ⟨.hbm, 734, rfl⟩
abbrev main_call0_v471 : Ref sig .tc := ⟨.hbm, 735, rfl⟩
abbrev main_call0_v472 : Ref sig .tc := ⟨.hbm, 736, rfl⟩
abbrev main_call0_c_123 : Ref sig .tc := ⟨.hbm, 737, rfl⟩
abbrev main_call0_v473 : Ref sig .tc := ⟨.hbm, 738, rfl⟩
abbrev main_call0_v474 : Ref sig .tc := ⟨.hbm, 739, rfl⟩
abbrev main_call0_v475 : Ref sig .tc := ⟨.hbm, 740, rfl⟩
abbrev main_call0_v476 : Ref sig .tc := ⟨.hbm, 741, rfl⟩
abbrev main_call0_v477 : Ref sig .tc := ⟨.hbm, 742, rfl⟩
abbrev main_call0_v478 : Ref sig .tc := ⟨.hbm, 743, rfl⟩
abbrev main_call0_v479 : Ref sig .tc := ⟨.hbm, 744, rfl⟩
abbrev main_call0_v480 : Ref sig .tc := ⟨.hbm, 745, rfl⟩
abbrev main_call0_c_124 : Ref sig .tc := ⟨.hbm, 746, rfl⟩
abbrev main_call0_v481 : Ref sig .tc := ⟨.hbm, 747, rfl⟩
abbrev main_call0_v482 : Ref sig .tc := ⟨.hbm, 748, rfl⟩
abbrev main_call0_v483 : Ref sig .tc := ⟨.hbm, 749, rfl⟩
abbrev main_call0_v484 : Ref sig .tc := ⟨.hbm, 750, rfl⟩
abbrev main_call0_v485 : Ref sig .tc := ⟨.hbm, 751, rfl⟩
abbrev main_call0_v486 : Ref sig .tc := ⟨.hbm, 752, rfl⟩
abbrev main_call0_v487 : Ref sig .tc := ⟨.hbm, 753, rfl⟩
abbrev main_call0_v488 : Ref sig .tc := ⟨.hbm, 754, rfl⟩
abbrev main_call0_v489 : Ref sig .tc := ⟨.hbm, 755, rfl⟩
abbrev main_call0_c_125 : Ref sig .tc := ⟨.hbm, 756, rfl⟩
abbrev main_call0_v490 : Ref sig .tc := ⟨.hbm, 757, rfl⟩
abbrev main_call0_v491 : Ref sig .tc := ⟨.hbm, 758, rfl⟩
abbrev main_call0_v492 : Ref sig .tc := ⟨.hbm, 759, rfl⟩
abbrev main_call0_v493 : Ref sig .tc := ⟨.hbm, 760, rfl⟩
abbrev main_call0_v494 : Ref sig .tc := ⟨.hbm, 761, rfl⟩
abbrev main_call0_v495 : Ref sig .tc := ⟨.hbm, 762, rfl⟩
abbrev main_call0_v496 : Ref sig .tc := ⟨.hbm, 763, rfl⟩
abbrev main_call0_v497 : Ref sig .tc := ⟨.hbm, 764, rfl⟩
abbrev main_call0_v498 : Ref sig .tc := ⟨.hbm, 765, rfl⟩
abbrev main_call0_v499 : Ref sig .tc := ⟨.hbm, 766, rfl⟩
abbrev main_call0_v500 : Ref sig .tc := ⟨.hbm, 767, rfl⟩
abbrev main_call0_v501 : Ref sig .tc := ⟨.hbm, 768, rfl⟩
abbrev main_call0_v502 : Ref sig .tc := ⟨.hbm, 769, rfl⟩
abbrev main_call0_v503 : Ref sig .tc := ⟨.hbm, 770, rfl⟩
abbrev main_call0_v504 : Ref sig .tc := ⟨.hbm, 771, rfl⟩
abbrev main_call0_c_126 : Ref sig .tc := ⟨.hbm, 772, rfl⟩
abbrev main_call0_v505 : Ref sig .tc := ⟨.hbm, 773, rfl⟩
abbrev main_call0_v506 : Ref sig .tc := ⟨.hbm, 774, rfl⟩
abbrev main_call0_v507 : Ref sig .tc := ⟨.hbm, 775, rfl⟩
abbrev main_call0_v508 : Ref sig .tc := ⟨.hbm, 776, rfl⟩
abbrev main_call0_v509 : Ref sig .tc := ⟨.hbm, 777, rfl⟩
abbrev main_call0_v510 : Ref sig .tc := ⟨.hbm, 778, rfl⟩
abbrev main_call0_v511 : Ref sig .tc := ⟨.hbm, 779, rfl⟩
abbrev main_call0_v512 : Ref sig .tc := ⟨.hbm, 780, rfl⟩
abbrev main_call0_c_127 : Ref sig .tc := ⟨.hbm, 781, rfl⟩
abbrev main_call0_v513 : Ref sig .tc := ⟨.hbm, 782, rfl⟩
abbrev main_call0_v514 : Ref sig .tc := ⟨.hbm, 783, rfl⟩
abbrev main_call0_v515 : Ref sig .tc := ⟨.hbm, 784, rfl⟩
abbrev main_call0_v516 : Ref sig .tc := ⟨.hbm, 785, rfl⟩
abbrev main_call0_v517 : Ref sig .tc := ⟨.hbm, 786, rfl⟩
abbrev main_call0_v518 : Ref sig .tc := ⟨.hbm, 787, rfl⟩
abbrev main_call0_v519 : Ref sig .tc := ⟨.hbm, 788, rfl⟩
abbrev main_call0_v520 : Ref sig .tc := ⟨.hbm, 789, rfl⟩
abbrev main_call0_v521 : Ref sig .tc := ⟨.hbm, 790, rfl⟩
abbrev main_call0_c_128 : Ref sig .tc := ⟨.hbm, 791, rfl⟩
abbrev main_call0_v522 : Ref sig .tc := ⟨.hbm, 792, rfl⟩
abbrev main_call0_v523 : Ref sig .tc := ⟨.hbm, 793, rfl⟩
abbrev main_call0_v524 : Ref sig .tc := ⟨.hbm, 794, rfl⟩
abbrev main_call0_v525 : Ref sig .tc := ⟨.hbm, 795, rfl⟩
abbrev main_call0_v526 : Ref sig .tc := ⟨.hbm, 796, rfl⟩
abbrev main_call0_v527 : Ref sig .tc := ⟨.hbm, 797, rfl⟩
abbrev main_call0_v528 : Ref sig .tc := ⟨.hbm, 798, rfl⟩
abbrev main_call0_v529 : Ref sig .tc := ⟨.hbm, 799, rfl⟩
abbrev main_call0_v530 : Ref sig .tc := ⟨.hbm, 800, rfl⟩
abbrev main_call0_v531 : Ref sig .tc := ⟨.hbm, 801, rfl⟩
abbrev main_v0 : Ref sig .tc := ⟨.hbm, 802, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v9 : Index := Scalar.indexCast v3
  let c0_3 : Index := 0#32
  ![v9.toNat, 0]
def k0_off2 (i : grid0.Coords) (c0_i32 : BitVec 32) (c0_i32_1 : BitVec 32) : Fin 3 → Nat :=
  let c63_i32 : BitVec 32 := 63#32
  let c0_i32_2 : BitVec 32 := 0#32
  let arg0 : BitVec 32 := BitVec.ofNat 32 (i 0).val
  let c8_i32 : BitVec 32 := 8#32
  let v2 : BitVec 32 := Scalar.muli arg0 c8_i32
  let v3 : BitVec 32 := Scalar.addi v2 c0_i32
  let v5 : BitVec 32 := Scalar.addi v3 c0_i32_1
  let c3_i32 : BitVec 32 := 3#32
  let v6 : BitVec 32 := Scalar.subi v5 c3_i32
  let v7 : BitVec 32 := Scalar.maxsi c0_i32_2 v6
  let v8 : BitVec 32 := Scalar.minsi c63_i32 v7
  let v11 : Index := Scalar.indexCast v8
  let c0_4 : Index := 0#32
  let c0_5 : Index := 0#32
  ![v11.toNat, 0, 0]
def k0_off3 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v21 : Index := Scalar.indexCast v3
  let c1 : Index := 1#32
  ![v21.toNat, 1]
def k0_off4 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v33 : Index := Scalar.indexCast v3
  let c2 : Index := 2#32
  ![v33.toNat, 2]
def k0_off5 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v45 : Index := Scalar.indexCast v3
  let c3 : Index := 3#32
  ![v45.toNat, 3]
def k0_off6 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v57 : Index := Scalar.indexCast v3
  let c4 : Index := 4#32
  ![v57.toNat, 4]
def k0_off7 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v69 : Index := Scalar.indexCast v3
  let c5 : Index := 5#32
  ![v69.toNat, 5]
def k0_off8 (i : grid0.Coords) (c0_i32 : BitVec 32) : Fin 2 → Nat :=
  let arg0 : BitVec 32 := BitVec.ofNat 32 (i 0).val
  let c8_i32 : BitVec 32 := 8#32
  let v2 : BitVec 32 := Scalar.muli arg0 c8_i32
  let v3 : BitVec 32 := Scalar.addi v2 c0_i32
  let v81 : Index := Scalar.indexCast v3
  let c6 : Index := 6#32
  ![v81.toNat, 6]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x1x64x256x256 : Shape := ⟨5, ![1, 1, 64, 256, 256]⟩
abbrev S1x1x3x1x1 : Shape := ⟨5, ![1, 1, 3, 1, 1]⟩
abbrev S1x1x1x3x3 : Shape := ⟨5, ![1, 1, 1, 3, 3]⟩
abbrev S_ : Shape := ⟨0, ![]⟩
abbrev S1x1x66x256x256 : Shape := ⟨5, ![1, 1, 66, 256, 256]⟩
abbrev S1x1x1x1x1 : Shape := ⟨5, ![1, 1, 1, 1, 1]⟩
abbrev S1x1x64x258x258 : Shape := ⟨5, ![1, 1, 64, 258, 258]⟩

abbrev nBuf : Space → Nat
  | .hbm => 313
  | .vmem => 0
  | .smem => 0
  | _ => 0

abbrev hbmTy0_0 (i : Nat) : BufTy := match i % 128 with
  | 0 => ⟨S1x1x64x256x256, .f32⟩
  | 1 => ⟨S1x1x3x1x1, .f32⟩
  | 2 => ⟨S1x1x3x1x1, .f32⟩
  | 3 => ⟨S1x1x3x1x1, .f32⟩
  | 4 => ⟨S1x1x1x3x3, .f32⟩
  | 5 => ⟨S1x1x1x3x3, .f32⟩
  | 6 => ⟨S1x1x1x3x3, .f32⟩
  | 7 => ⟨S1x1x1x3x3, .f32⟩
  | 8 => ⟨S_, .i32⟩
  | 9 => ⟨S_, .f32⟩
  | 10 => ⟨S1x1x66x256x256, .f32⟩
  | 11 => ⟨S1x1x1x1x1, .f32⟩
  | 12 => ⟨S_, .f32⟩
  | 13 => ⟨S1x1x64x256x256, .f32⟩
  | 14 => ⟨S1x1x64x256x256, .f32⟩
  | 15 => ⟨S1x1x64x256x256, .f32⟩
  | 16 => ⟨S_, .f32⟩
  | 17 => ⟨S1x1x64x256x256, .f32⟩
  | 18 => ⟨S1x1x64x256x256, .f32⟩
  | 19 => ⟨S1x1x1x1x1, .f32⟩
  | 20 => ⟨S_, .f32⟩
  | 21 => ⟨S1x1x64x256x256, .f32⟩
  | 22 => ⟨S1x1x64x256x256, .f32⟩
  | 23 => ⟨S1x1x64x256x256, .f32⟩
  | 24 => ⟨S1x1x64x256x256, .f32⟩
  | 25 => ⟨S1x1x1x1x1, .f32⟩
  | 26 => ⟨S_, .f32⟩
  | 27 => ⟨S1x1x64x256x256, .f32⟩
  | 28 => ⟨S1x1x64x256x256, .f32⟩
  | 29 => ⟨S1x1x64x256x256, .f32⟩
  | 30 => ⟨S1x1x64x256x256, .f32⟩
  | 31 => ⟨S_, .i32⟩
  | 32 => ⟨S_, .f32⟩
  | 33 => ⟨S1x1x66x256x256, .f32⟩
  | 34 => ⟨S1x1x1x1x1, .f32⟩
  | 35 => ⟨S_, .f32⟩
  | 36 => ⟨S1x1x64x256x256, .f32⟩
  | 37 => ⟨S1x1x64x256x256, .f32⟩
  | 38 => ⟨S1x1x64x256x256, .f32⟩
  | 39 => ⟨S_, .f32⟩
  | 40 => ⟨S1x1x64x256x256, .f32⟩
  | 41 => ⟨S1x1x64x256x256, .f32⟩
  | 42 => ⟨S1x1x1x1x1, .f32⟩
  | 43 => ⟨S_, .f32⟩
  | 44 => ⟨S1x1x64x256x256, .f32⟩
  | 45 => ⟨S1x1x64x256x256, .f32⟩
  | 46 => ⟨S1x1x64x256x256, .f32⟩
  | 47 => ⟨S1x1x64x256x256, .f32⟩
  | 48 => ⟨S1x1x1x1x1, .f32⟩
  | 49 => ⟨S_, .f32⟩
  | 50 => ⟨S1x1x64x256x256, .f32⟩
  | 51 => ⟨S1x1x64x256x256, .f32⟩
  | 52 => ⟨S1x1x64x256x256, .f32⟩
  | 53 => ⟨S1x1x64x256x256, .f32⟩
  | 54 => ⟨S_, .i32⟩
  | 55 => ⟨S_, .f32⟩
  | 56 => ⟨S1x1x66x256x256, .f32⟩
  | 57 => ⟨S1x1x1x1x1, .f32⟩
  | 58 => ⟨S_, .f32⟩
  | 59 => ⟨S1x1x64x256x256, .f32⟩
  | 60 => ⟨S1x1x64x256x256, .f32⟩
  | 61 => ⟨S1x1x64x256x256, .f32⟩
  | 62 => ⟨S_, .f32⟩
  | 63 => ⟨S1x1x64x256x256, .f32⟩
  | 64 => ⟨S1x1x64x256x256, .f32⟩
  | 65 => ⟨S1x1x1x1x1, .f32⟩
  | 66 => ⟨S_, .f32⟩
  | 67 => ⟨S1x1x64x256x256, .f32⟩
  | 68 => ⟨S1x1x64x256x256, .f32⟩
  | 69 => ⟨S1x1x64x256x256, .f32⟩
  | 70 => ⟨S1x1x64x256x256, .f32⟩
  | 71 => ⟨S1x1x1x1x1, .f32⟩
  | 72 => ⟨S_, .f32⟩
  | 73 => ⟨S1x1x64x256x256, .f32⟩
  | 74 => ⟨S1x1x64x256x256, .f32⟩
  | 75 => ⟨S1x1x64x256x256, .f32⟩
  | 76 => ⟨S1x1x64x256x256, .f32⟩
  | 77 => ⟨S_, .i32⟩
  | 78 => ⟨S_, .f32⟩
  | 79 => ⟨S1x1x64x258x258, .f32⟩
  | 80 => ⟨S1x1x1x1x1, .f32⟩
  | 81 => ⟨S_, .f32⟩
  | 82 => ⟨S1x1x64x256x256, .f32⟩
  | 83 => ⟨S1x1x64x256x256, .f32⟩
  | 84 => ⟨S1x1x64x256x256, .f32⟩
  | 85 => ⟨S_, .f32⟩
  | 86 => ⟨S1x1x64x256x256, .f32⟩
  | 87 => ⟨S1x1x64x256x256, .f32⟩
  | 88 => ⟨S1x1x1x1x1, .f32⟩
  | 89 => ⟨S_, .f32⟩
  | 90 => ⟨S1x1x64x256x256, .f32⟩
  | 91 => ⟨S1x1x64x256x256, .f32⟩
  | 92 => ⟨S1x1x64x256x256, .f32⟩
  | 93 => ⟨S1x1x64x256x256, .f32⟩
  | 94 => ⟨S1x1x1x1x1, .f32⟩
  | 95 => ⟨S_, .f32⟩
  | 96 => ⟨S1x1x64x256x256, .f32⟩
  | 97 => ⟨S1x1x64x256x256, .f32⟩
  | 98 => ⟨S1x1x64x256x256, .f32⟩
  | 99 => ⟨S1x1x64x256x256, .f32⟩
  | 100 => ⟨S1x1x1x1x1, .f32⟩
  | 101 => ⟨S_, .f32⟩
  | 102 => ⟨S1x1x64x256x256, .f32⟩
  | 103 => ⟨S1x1x64x256x256, .f32⟩
  | 104 => ⟨S1x1x64x256x256, .f32⟩
  | 105 => ⟨S1x1x64x256x256, .f32⟩
  | 106 => ⟨S1x1x1x1x1, .f32⟩
  | 107 => ⟨S_, .f32⟩
  | 108 => ⟨S1x1x64x256x256, .f32⟩
  | 109 => ⟨S1x1x64x256x256, .f32⟩
  | 110 => ⟨S1x1x64x256x256, .f32⟩
  | 111 => ⟨S1x1x64x256x256, .f32⟩
  | 112 => ⟨S1x1x1x1x1, .f32⟩
  | 113 => ⟨S_, .f32⟩
  | 114 => ⟨S1x1x64x256x256, .f32⟩
  | 115 => ⟨S1x1x64x256x256, .f32⟩
  | 116 => ⟨S1x1x64x256x256, .f32⟩
  | 117 => ⟨S1x1x64x256x256, .f32⟩
  | 118 => ⟨S1x1x1x1x1, .f32⟩
  | 119 => ⟨S_, .f32⟩
  | 120 => ⟨S1x1x64x256x256, .f32⟩
  | 121 => ⟨S1x1x64x256x256, .f32⟩
  | 122 => ⟨S1x1x64x256x256, .f32⟩
  | 123 => ⟨S1x1x64x256x256, .f32⟩
  | 124 => ⟨S1x1x1x1x1, .f32⟩
  | 125 => ⟨S_, .f32⟩
  | 126 => ⟨S1x1x64x256x256, .f32⟩
  | 127 => ⟨S1x1x64x256x256, .f32⟩
  | _ => ⟨S1x1x64x256x256, .f32⟩

abbrev hbmTy0_1 (i : Nat) : BufTy := match i % 128 with
  | 0 => ⟨S1x1x64x256x256, .f32⟩
  | 1 => ⟨S1x1x64x256x256, .f32⟩
  | 2 => ⟨S1x1x1x1x1, .f32⟩
  | 3 => ⟨S_, .f32⟩
  | 4 => ⟨S1x1x64x256x256, .f32⟩
  | 5 => ⟨S1x1x64x256x256, .f32⟩
  | 6 => ⟨S1x1x64x256x256, .f32⟩
  | 7 => ⟨S1x1x64x256x256, .f32⟩
  | 8 => ⟨S_, .i32⟩
  | 9 => ⟨S_, .f32⟩
  | 10 => ⟨S1x1x64x258x258, .f32⟩
  | 11 => ⟨S1x1x1x1x1, .f32⟩
  | 12 => ⟨S_, .f32⟩
  | 13 => ⟨S1x1x64x256x256, .f32⟩
  | 14 => ⟨S1x1x64x256x256, .f32⟩
  | 15 => ⟨S1x1x64x256x256, .f32⟩
  | 16 => ⟨S_, .f32⟩
  | 17 => ⟨S1x1x64x256x256, .f32⟩
  | 18 => ⟨S1x1x64x256x256, .f32⟩
  | 19 => ⟨S1x1x1x1x1, .f32⟩
  | 20 => ⟨S_, .f32⟩
  | 21 => ⟨S1x1x64x256x256, .f32⟩
  | 22 => ⟨S1x1x64x256x256, .f32⟩
  | 23 => ⟨S1x1x64x256x256, .f32⟩
  | 24 => ⟨S1x1x64x256x256, .f32⟩
  | 25 => ⟨S1x1x1x1x1, .f32⟩
  | 26 => ⟨S_, .f32⟩
  | 27 => ⟨S1x1x64x256x256, .f32⟩
  | 28 => ⟨S1x1x64x256x256, .f32⟩
  | 29 => ⟨S1x1x64x256x256, .f32⟩
  | 30 => ⟨S1x1x64x256x256, .f32⟩
  | 31 => ⟨S1x1x1x1x1, .f32⟩
  | 32 => ⟨S_, .f32⟩
  | 33 => ⟨S1x1x64x256x256, .f32⟩
  | 34 => ⟨S1x1x64x256x256, .f32⟩
  | 35 => ⟨S1x1x64x256x256, .f32⟩
  | 36 => ⟨S1x1x64x256x256, .f32⟩
  | 37 => ⟨S1x1x1x1x1, .f32⟩
  | 38 => ⟨S_, .f32⟩
  | 39 => ⟨S1x1x64x256x256, .f32⟩
  | 40 => ⟨S1x1x64x256x256, .f32⟩
  | 41 => ⟨S1x1x64x256x256, .f32⟩
  | 42 => ⟨S1x1x64x256x256, .f32⟩
  | 43 => ⟨S1x1x1x1x1, .f32⟩
  | 44 => ⟨S_, .f32⟩
  | 45 => ⟨S1x1x64x256x256, .f32⟩
  | 46 => ⟨S1x1x64x256x256, .f32⟩
  | 47 => ⟨S1x1x64x256x256, .f32⟩
  | 48 => ⟨S1x1x64x256x256, .f32⟩
  | 49 => ⟨S1x1x1x1x1, .f32⟩
  | 50 => ⟨S_, .f32⟩
  | 51 => ⟨S1x1x64x256x256, .f32⟩
  | 52 => ⟨S1x1x64x256x256, .f32⟩
  | 53 => ⟨S1x1x64x256x256, .f32⟩
  | 54 => ⟨S1x1x64x256x256, .f32⟩
  | 55 => ⟨S1x1x1x1x1, .f32⟩
  | 56 => ⟨S_, .f32⟩
  | 57 => ⟨S1x1x64x256x256, .f32⟩
  | 58 => ⟨S1x1x64x256x256, .f32⟩
  | 59 => ⟨S1x1x64x256x256, .f32⟩
  | 60 => ⟨S1x1x64x256x256, .f32⟩
  | 61 => ⟨S1x1x1x1x1, .f32⟩
  | 62 => ⟨S_, .f32⟩
  | 63 => ⟨S1x1x64x256x256, .f32⟩
  | 64 => ⟨S1x1x64x256x256, .f32⟩
  | 65 => ⟨S1x1x64x256x256, .f32⟩
  | 66 => ⟨S1x1x64x256x256, .f32⟩
  | 67 => ⟨S_, .i32⟩
  | 68 => ⟨S_, .f32⟩
  | 69 => ⟨S1x1x64x258x258, .f32⟩
  | 70 => ⟨S1x1x1x1x1, .f32⟩
  | 71 => ⟨S_, .f32⟩
  | 72 => ⟨S1x1x64x256x256, .f32⟩
  | 73 => ⟨S1x1x64x256x256, .f32⟩
  | 74 => ⟨S1x1x64x256x256, .f32⟩
  | 75 => ⟨S_, .f32⟩
  | 76 => ⟨S1x1x64x256x256, .f32⟩
  | 77 => ⟨S1x1x64x256x256, .f32⟩
  | 78 => ⟨S1x1x1x1x1, .f32⟩
  | 79 => ⟨S_, .f32⟩
  | 80 => ⟨S1x1x64x256x256, .f32⟩
  | 81 => ⟨S1x1x64x256x256, .f32⟩
  | 82 => ⟨S1x1x64x256x256, .f32⟩
  | 83 => ⟨S1x1x64x256x256, .f32⟩
  | 84 => ⟨S1x1x1x1x1, .f32⟩
  | 85 => ⟨S_, .f32⟩
  | 86 => ⟨S1x1x64x256x256, .f32⟩
  | 87 => ⟨S1x1x64x256x256, .f32⟩
  | 88 => ⟨S1x1x64x256x256, .f32⟩
  | 89 => ⟨S1x1x64x256x256, .f32⟩
  | 90 => ⟨S1x1x1x1x1, .f32⟩
  | 91 => ⟨S_, .f32⟩
  | 92 => ⟨S1x1x64x256x256, .f32⟩
  | 93 => ⟨S1x1x64x256x256, .f32⟩
  | 94 => ⟨S1x1x64x256x256, .f32⟩
  | 95 => ⟨S1x1x64x256x256, .f32⟩
  | 96 => ⟨S1x1x1x1x1, .f32⟩
  | 97 => ⟨S_, .f32⟩
  | 98 => ⟨S1x1x64x256x256, .f32⟩
  | 99 => ⟨S1x1x64x256x256, .f32⟩
  | 100 => ⟨S1x1x64x256x256, .f32⟩
  | 101 => ⟨S1x1x64x256x256, .f32⟩
  | 102 => ⟨S1x1x1x1x1, .f32⟩
  | 103 => ⟨S_, .f32⟩
  | 104 => ⟨S1x1x64x256x256, .f32⟩
  | 105 => ⟨S1x1x64x256x256, .f32⟩
  | 106 => ⟨S1x1x64x256x256, .f32⟩
  | 107 => ⟨S1x1x64x256x256, .f32⟩
  | 108 => ⟨S1x1x1x1x1, .f32⟩
  | 109 => ⟨S_, .f32⟩
  | 110 => ⟨S1x1x64x256x256, .f32⟩
  | 111 => ⟨S1x1x64x256x256, .f32⟩
  | 112 => ⟨S1x1x64x256x256, .f32⟩
  | 113 => ⟨S1x1x64x256x256, .f32⟩
  | 114 => ⟨S1x1x1x1x1, .f32⟩
  | 115 => ⟨S_, .f32⟩
  | 116 => ⟨S1x1x64x256x256, .f32⟩
  | 117 => ⟨S1x1x64x256x256, .f32⟩
  | 118 => ⟨S1x1x64x256x256, .f32⟩
  | 119 => ⟨S1x1x64x256x256, .f32⟩
  | 120 => ⟨S1x1x1x1x1, .f32⟩
  | 121 => ⟨S_, .f32⟩
  | 122 => ⟨S1x1x64x256x256, .f32⟩
  | 123 => ⟨S1x1x64x256x256, .f32⟩
  | 124 => ⟨S1x1x64x256x256, .f32⟩
  | 125 => ⟨S1x1x64x256x256, .f32⟩
  | 126 => ⟨S_, .i32⟩
  | 127 => ⟨S_, .f32⟩
  | _ => ⟨S1x1x64x256x256, .f32⟩

abbrev hbmTy0_2 (i : Nat) : BufTy := match i % 128 with
  | 0 => ⟨S1x1x64x258x258, .f32⟩
  | 1 => ⟨S1x1x1x1x1, .f32⟩
  | 2 => ⟨S_, .f32⟩
  | 3 => ⟨S1x1x64x256x256, .f32⟩
  | 4 => ⟨S1x1x64x256x256, .f32⟩
  | 5 => ⟨S1x1x64x256x256, .f32⟩
  | 6 => ⟨S_, .f32⟩
  | 7 => ⟨S1x1x64x256x256, .f32⟩
  | 8 => ⟨S1x1x64x256x256, .f32⟩
  | 9 => ⟨S1x1x1x1x1, .f32⟩
  | 10 => ⟨S_, .f32⟩
  | 11 => ⟨S1x1x64x256x256, .f32⟩
  | 12 => ⟨S1x1x64x256x256, .f32⟩
  | 13 => ⟨S1x1x64x256x256, .f32⟩
  | 14 => ⟨S1x1x64x256x256, .f32⟩
  | 15 => ⟨S1x1x1x1x1, .f32⟩
  | 16 => ⟨S_, .f32⟩
  | 17 => ⟨S1x1x64x256x256, .f32⟩
  | 18 => ⟨S1x1x64x256x256, .f32⟩
  | 19 => ⟨S1x1x64x256x256, .f32⟩
  | 20 => ⟨S1x1x64x256x256, .f32⟩
  | 21 => ⟨S1x1x1x1x1, .f32⟩
  | 22 => ⟨S_, .f32⟩
  | 23 => ⟨S1x1x64x256x256, .f32⟩
  | 24 => ⟨S1x1x64x256x256, .f32⟩
  | 25 => ⟨S1x1x64x256x256, .f32⟩
  | 26 => ⟨S1x1x64x256x256, .f32⟩
  | 27 => ⟨S1x1x1x1x1, .f32⟩
  | 28 => ⟨S_, .f32⟩
  | 29 => ⟨S1x1x64x256x256, .f32⟩
  | 30 => ⟨S1x1x64x256x256, .f32⟩
  | 31 => ⟨S1x1x64x256x256, .f32⟩
  | 32 => ⟨S1x1x64x256x256, .f32⟩
  | 33 => ⟨S1x1x1x1x1, .f32⟩
  | 34 => ⟨S_, .f32⟩
  | 35 => ⟨S1x1x64x256x256, .f32⟩
  | 36 => ⟨S1x1x64x256x256, .f32⟩
  | 37 => ⟨S1x1x64x256x256, .f32⟩
  | 38 => ⟨S1x1x64x256x256, .f32⟩
  | 39 => ⟨S1x1x1x1x1, .f32⟩
  | 40 => ⟨S_, .f32⟩
  | 41 => ⟨S1x1x64x256x256, .f32⟩
  | 42 => ⟨S1x1x64x256x256, .f32⟩
  | 43 => ⟨S1x1x64x256x256, .f32⟩
  | 44 => ⟨S1x1x64x256x256, .f32⟩
  | 45 => ⟨S1x1x1x1x1, .f32⟩
  | 46 => ⟨S_, .f32⟩
  | 47 => ⟨S1x1x64x256x256, .f32⟩
  | 48 => ⟨S1x1x64x256x256, .f32⟩
  | 49 => ⟨S1x1x64x256x256, .f32⟩
  | 50 => ⟨S1x1x64x256x256, .f32⟩
  | 51 => ⟨S1x1x1x1x1, .f32⟩
  | 52 => ⟨S_, .f32⟩
  | 53 => ⟨S1x1x64x256x256, .f32⟩
  | 54 => ⟨S1x1x64x256x256, .f32⟩
  | 55 => ⟨S1x1x64x256x256, .f32⟩
  | 56 => ⟨S1x1x64x256x256, .f32⟩
  | _ => ⟨S1x1x64x256x256, .f32⟩

abbrev hbmTy (i : Nat) : BufTy := match i / 128 with
  | 0 => hbmTy0_0 i
  | 1 => hbmTy0_1 i
  | 2 => hbmTy0_2 i
  | _ => ⟨S1x1x64x256x256, .f32⟩

abbrev bufTy : (tb : Table) → Fin (tcTables nBuf tb) → BufTy
  | .hbm, ⟨i, _⟩ => hbmTy i
  | _, _ => ⟨S1x1x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_0 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_2 : Ref sig .tc := ⟨.hbm, 54, rfl⟩
abbrev main_call2_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_call3_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_c_6 : Ref sig .tc := ⟨.hbm, 136, rfl⟩
abbrev main_call4_v0 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_7 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_c_8 : Ref sig .tc := ⟨.hbm, 195, rfl⟩
abbrev main_call5_v0 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_cst_9 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_c_10 : Ref sig .tc := ⟨.hbm, 254, rfl⟩
abbrev main_call6_v0 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_cst_11 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit

/-! What the kernel body leaves in its output block at one grid point, as one function of the four operand blocks. -/

@[expose] public section

set_option maxRecDepth 16384
set_option maxHeartbeats 4000000

noncomputable section

namespace Cert.KernelIdeal.Block

open Idealize.ShloMosaic Idealize.ShloMosaic.TcCoe Idealize.ShloMosaic.Tactic Cert.KernelIdeal Cert.KernelIdeal.Gen

variable {F : FTy → Type} [FloatOps F]

/-- One banded tap: the accumulator plus a scalar coefficient times a depth slab. -/
def tap (acc : FVec F S256x256 .f32) (b : Elt F .f32) (x : Vec F S1x256x256 .f32) : FVec F S256x256 .f32 :=
  addf acc (mulf (broadcast S256x256 b) (shapeCast S256x256 x shapeCasts_S1x256x256_S256x256))

/-- The depth slab that tap `k` of the point's row `r` reads. -/
def slab (i : grid0.Coords) (x : FVec F S64x256x256 .f32) (r : Fin 8) (k : Fin 7) : Vec F S1x256x256 .f32 :=
  View.ld x (Rect.unit (s := S64x256x256) (k0_off2 i (BitVec.ofNat 32 r.val) (BitVec.ofNat 32 k.val)) S1x256x256.size (k0_off2_inb i r k))

/-- One coefficient of the band, read at an offset. -/
def coef (b : FVec F S64x7 .f32) (off : Fin 2 → ℕ) (inb : ∀ a, off a + S1x1.size a ≤ S64x7.size a) : Elt F .f32 :=
  View.ld b (Rect.unit (s := S64x7) off S1x1.size inb) (Shape.Idx.first (by show 0 < S1x1.numel; decide))

/-- The seven-tap accumulation of row `r` of the point. -/
def acc (i : grid0.Coords) (b : FVec F S64x7 .f32) (x : FVec F S64x256x256 .f32) (r : Fin 8) : FVec F S256x256 .f32 :=
  tap (tap (tap (tap (tap (tap (tap (broadcast S256x256 (Scalar.ofBits .f32 0x00000000#32))
    (coef b (k0_off1 i (BitVec.ofNat 32 r.val)) (k0_off1_inb i r)) (slab i x r 0))
    (coef b (k0_off3 i (BitVec.ofNat 32 r.val)) (k0_off3_inb i r)) (slab i x r 1))
    (coef b (k0_off4 i (BitVec.ofNat 32 r.val)) (k0_off4_inb i r)) (slab i x r 2))
    (coef b (k0_off5 i (BitVec.ofNat 32 r.val)) (k0_off5_inb i r)) (slab i x r 3))
    (coef b (k0_off6 i (BitVec.ofNat 32 r.val)) (k0_off6_inb i r)) (slab i x r 4))
    (coef b (k0_off7 i (BitVec.ofNat 32 r.val)) (k0_off7_inb i r)) (slab i x r 5))
    (coef b (k0_off8 i (BitVec.ofNat 32 r.val)) (k0_off8_inb i r)) (slab i x r 6)

/-- What the body stores in the scratch for row `r`: the left matrix times the accumulation. -/
def rows (i : grid0.Coords) (b : FVec F S64x7 .f32) (x : FVec F S64x256x256 .f32) (l : FVec F S256x256 .f32) (r : Fin 8) : FVec F S256x256 .f32 :=
  shapeCast S256x256 (matmul dot_S256x256_S256x256_S256x256_1_0_0_1_n_n none (k0_pay2 l) (acc i b x r) (constant S256x256 .f32 0x00000000#32)) shapeCasts_S256x256_S256x256

/-- The row of the point that a scratch line belongs to, and its place inside that row. -/
def lineRow (a : Fin 2048) : Fin 8 := ⟨a.val / 256, by omega⟩
def lineCol (a : Fin 2048) : Fin 256 := ⟨a.val % 256, by omega⟩

/-- The whole scratch after the eight stores. -/
def scratch (i : grid0.Coords) (b : FVec F S64x7 .f32) (x : FVec F S64x256x256 .f32) (l : FVec F S256x256 .f32) : FVec F S2048x256 .f32 :=
  fun y => rows i b x l (lineRow (y 0)) (ValueIdx.ix2 (lineCol (y 0)) (y 1))

/-- The stores of the scratch, one block of lines each. -/
theorem block_inb (r : Fin 8) : ∀ a, (![256 * r.val, 0] : Fin 2 → ℕ) a + S256x256.size a ≤ S2048x256.size a := by
  intro a; fin_cases a
  · show 256 * r.val + 256 ≤ 2048; omega
  · show 0 + 256 ≤ 256; omega

def piece (i : grid0.Coords) (b : FVec F S64x7 .f32) (x : FVec F S64x256x256 .f32) (l : FVec F S256x256 .f32) (r : Fin 8) : View.Piece (Elt F) S2048x256 .f32 :=
  ⟨Rect.unit (s := S2048x256) ![256 * r.val, 0] S256x256.size (block_inb r), rows i b x l r⟩

/-- Every store restricts the one function `scratch`. -/
theorem piece_eq (i : grid0.Coords) (b : FVec F S64x7 .f32) (x : FVec F S64x256x256 .f32) (l : FVec F S256x256 .f32) (r : Fin 8)
    (y : (piece i b x l r).1.shape.Idx) : (piece i b x l r).2 y = scratch i b x l ((piece i b x l r).1.emb y) := by
  have h0 : (((piece i b x l r).1.emb y) 0 : ℕ) = 256 * r.val + (y 0).val := Rect.idx_unit_val _ _ (block_inb r) y _
  have h1 : (((piece i b x l r).1.emb y) 1 : ℕ) = 0 + (y 1).val := Rect.idx_unit_val _ _ (block_inb r) y _
  have hy : (y 0).val < 256 := (y 0).isLt
  show rows i b x l r y = rows i b x l (lineRow _) _
  rw [show lineRow (((piece i b x l r).1.emb y) 0) = r from Fin.ext (by show _ / 256 = _; rw [h0]; omega)]
  refine congrArg _ (funext fun a => ?_)
  fin_cases a
  · exact Fin.ext (by show (y 0).val = _ % 256; rw [h0]; omega)
  · exact Fin.ext (by show (y 1).val = (((piece i b x l r).1.emb y) 1 : ℕ); rw [h1]; omega)

/-- The eight stores, last first, leave `scratch`. -/
theorem canon_scratch (i : grid0.Coords) (b : FVec F S64x7 .f32) (x : FVec F S64x256x256 .f32) (l : FVec F S256x256 .f32) :
    View.canon [piece i b x l 7, piece i b x l 6, piece i b x l 5, piece i b x l 4, piece i b x l 3, piece i b x l 2, piece i b x l 1, piece i b x l 0]
      = scratch i b x l := by
  have hL : [piece i b x l 7, piece i b x l 6, piece i b x l 5, piece i b x l 4, piece i b x l 3, piece i b x l 2, piece i b x l 1, piece i b x l 0]
      = ([7, 6, 5, 4, 3, 2, 1, 0] : List (Fin 8)).map (piece i b x l) := rfl
  rw [hL]
  funext y
  refine View.canon_apply_of_pieces _ _ (fun p hp z => ?_) y ?_
  · obtain ⟨r, -, rfl⟩ := List.mem_map.1 hp
    exact piece_eq i b x l r z
  · refine ⟨piece i b x l (lineRow (y 0)), List.mem_map.2 ⟨_, ?_, rfl⟩, ?_⟩
    · generalize lineRow (y 0) = r; revert r; decide
    · have hy : (y 0).val < 2048 := (y 0).isLt
      have hy1 : (y 1).val < 256 := (y 1).isLt
      show y ∈ (Rect.unit (s := S2048x256) _ _ (block_inb _)).set
      rw [Rect.mem_set_unit]
      intro a; fin_cases a
      · show 256 * ((y 0).val / 256) ≤ (y 0).val ∧ (y 0).val < 256 * ((y 0).val / 256) + 256
        omega
      · show 0 ≤ (y 1).val ∧ (y 1).val < 0 + 256
        omega

/-- A load of a whole buffer after some stores reads what those stores left. -/
theorem readCov_whole {κ : Kind} {sp : Space} {S : Shape} {e : EltTy} (v : View sig κ sp S e) (L : List (View.Piece (Elt F) S e))
    {off : Fin S.rank → ℕ} (h : off = fun _ => 0) (inb : ∀ a, off a + S.size a ≤ S.size a) :
    v.readCov L (Rect.unit off S.size inb).toLoadRect = View.canon L :=
  (View.readCov_eq_canon' v L _).trans (View.ld_unit_zero h inb (View.canon L))

variable (m : (ℓ : Loc nD τ sig) → Buf (Elt F) ℓ) (c : Dev nD)

/-- The block the body leaves at point `t`. -/
theorem outsAt_eq (t : Fin cfg0.N) : outsAt0 m c t
    = k0_pay1 (scratch (grid0.coords t) (iblk m c 0 t) (iblk m c 1 t) (iblk m c 2 t)) (iblk m c 3 t) := by
  unfold outsAt0 out0_A_4
  rw [View.read_writes_eq_canon _ _ _ (cover0_A_4 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero (by funext a; fin_cases a <;> rfl)]
  refine congrArg₂ k0_pay1 ?_ (View.ld_unit_zero (S := S256x256) (X := iblk m c 3 t) (by funext a; fin_cases a <;> rfl) _)
  refine (readCov_whole _ _ (by funext a; fin_cases a <;> rfl) _).trans ?_
  refine Eq.trans ?_ (congrArg (fun l => scratch (grid0.coords t) (iblk m c 0 t) (iblk m c 1 t) l)
    (View.ld_unit_zero (S := S256x256) (X := iblk m c 2 t) (off := ![0, 0]) (by funext a; fin_cases a <;> rfl) inb_S256x256_S256x256_0_0))
  exact canon_scratch (grid0.coords t) (iblk m c 0 t) (iblk m c 1 t) (View.ld (iblk m c 2 t) (Rect.unit (s := S256x256) ![0, 0] S256x256.size inb_S256x256_S256x256_0_0))

end Cert.KernelIdeal.Block

end
-- ==== Proof.HostFns.lean ====
/- What the host operations before the launch compute, as functions of the arguments: the tridiagonal matrices, the
   rank-one factors of a plane weight, the band of the depth matrix, and the three operand arrays built from them. -/
module

public import proofs.«01_k».proof.Proof.Gen.KernelIdeal

@[expose] public section

set_option maxRecDepth 16384

noncomputable section

namespace Cert.KernelIdeal.HostFns

open Idealize.ShloMosaic Cert.KernelIdeal Cert.KernelIdeal.Gen

variable {F : FTy → Type} [FloatOps F]

/-- A word at every index of an array without axes. -/
def word (b : BitVec 32) : IVec S_ 32 := constantI S_ 32 b

/-! ## The three entries of a short vector, as scalars -/

def pick0 (s : FVec F S3 .f32) : FVec F S_ .f32 := shapeCast S_ (extractStridedSlice S1 ![0] s slices_S3_S1_0) shapeCasts_S1_S_
def pick1 (s : FVec F S3 .f32) : FVec F S_ .f32 := shapeCast S_ (extractStridedSlice S1 ![1] s slices_S3_S1_1) shapeCasts_S1_S_
def pick2 (s : FVec F S3 .f32) : FVec F S_ .f32 := shapeCast S_ (extractStridedSlice S1 ![2] s slices_S3_S1_2) shapeCasts_S1_S_

/-! ## Tridiagonal matrices -/

/-- The scalar `s` on the diagonal where the row plus the word `b` is the column, zero elsewhere, of extent 64. -/
def diag64 (s : FVec F S_ .f32) (b : BitVec 32) : FVec F S64x64 .f32 :=
  mulf (broadcastInDim S64x64 ![] bcast_S_S64x64 s)
    (uitofp .f32 (cmpi .eq (addi (iotaInDim S64x64 32 0) (broadcastInDim S64x64 ![] bcast_S_S64x64 (word b))) (iotaInDim S64x64 32 1)))

/-- The same of extent 256. -/
def diag256 (s : FVec F S_ .f32) (b : BitVec 32) : FVec F S256x256 .f32 :=
  mulf (broadcastInDim S256x256 ![] bcast_S_S256x256 s)
    (uitofp .f32 (cmpi .eq (addi (iotaInDim S256x256 32 0) (broadcastInDim S256x256 ![] bcast_S_S256x256 (word b))) (iotaInDim S256x256 32 1)))

/-- The tridiagonal matrix of three scalars, of extent 64. -/
def tri64 (a b c : FVec F S_ .f32) : FVec F S64x64 .f32 :=
  addf (addf (diag64 a 4294967295#32) (diag64 b 0#32)) (diag64 c 1#32)

/-- The tridiagonal matrix of three scalars, of extent 256. -/
def tri256 (a b c : FVec F S_ .f32) : FVec F S256x256 .f32 :=
  addf (addf (diag256 a 4294967295#32) (diag256 b 0#32)) (diag256 c 1#32)

/-! ## The depth matrix and its band -/

def depthTri (w : FVec F S1x1x3x1x1 .f32) : FVec F S64x64 .f32 :=
  let s : FVec F S3 .f32 := shapeCast S3 w shapeCasts_S1x1x3x1x1_S3
  tri64 (pick0 s) (pick1 s) (pick2 s)

def depthMat (w1 w2 w3 : FVec F S1x1x3x1x1 .f32) : FVec F S64x64 .f32 :=
  Host.dotGeneral dot_S64x64_S64x64_S64x64_1_0_0_1_n_n none
    (Host.dotGeneral dot_S64x64_S64x64_S64x64_1_0_0_1_n_n none (depthTri w3) (depthTri w2)) (depthTri w1)

/-- The row number down a column of 64. -/
def rowNo : IVec S64x1 32 := broadcastInDim S64x1 ![0] bcast_S64_S64x1_0 (iotaInDim S64 32 0)

/-- The column of the depth matrix each band entry names: the row plus the tap less three, which may fall outside. -/
def bandCol : IVec S64x7 32 :=
  subi (addi (broadcastInDim S64x7 ![0, 1] bcast_S64x1_S64x7_0_1 rowNo)
      (broadcastInDim S64x7 ![0, 1] bcast_S1x7_S64x7_0_1 (broadcastInDim S1x7 ![1] bcast_S7_S1x7_1 (iotaInDim S7 32 0))))
    (broadcastInDim S64x7 ![] bcast_S_S64x7 (word 3#32))

/-- Whether a band entry's column lies inside the matrix. -/
def bandIn : IVec S64x7 1 :=
  andi (cmpi .sge bandCol (broadcastInDim S64x7 ![] bcast_S_S64x7 (word 0#32)))
    (cmpi .slt bandCol (broadcastInDim S64x7 ![] bcast_S_S64x7 (word 64#32)))

/-- The band entry's column, clipped into the matrix. -/
def bandClip : IVec S64x7 32 :=
  minsi (broadcastInDim S64x7 ![] bcast_S_S64x7 (word 63#32))
    (maxsi (broadcastInDim S64x7 ![] bcast_S_S64x7 (word 0#32)) bandCol)

/-- The row and column each band entry is gathered from. -/
def bandIdx : IVec S64x7x2 32 :=
  concatenate S64x7x2 2
    [⟨S64x7x1, broadcastInDim S64x7x1 ![0, 1] bcast_S64x7_S64x7x1_0_1
        (broadcastInDim S64x7 ![0, 1] bcast_S64x1_S64x7_0_1
          (select (cmpi .slt rowNo (broadcastInDim S64x1 ![] bcast_S_S64x1 (word 0#32)))
            (addi rowNo (broadcastInDim S64x1 ![] bcast_S_S64x1 (word 64#32))) rowNo))⟩,
     ⟨S64x7x1, broadcastInDim S64x7x1 ![0, 1] bcast_S64x7_S64x7x1_0_1
        (select (cmpi .slt bandClip (broadcastInDim S64x7 ![] bcast_S_S64x7 (word 0#32)))
          (addi bandClip (broadcastInDim S64x7 ![] bcast_S_S64x7 (word 64#32))) bandClip)⟩]
    concatenates_S64x7x1_S64x7x1_S64x7x2_d2

/-- The seven-entry band of a matrix, zero where the entry falls outside. -/
def band (x : FVec F S64x64 .f32) : FVec F S64x7 .f32 :=
  select bandIn (Host.gather gather_S64x64_S64x7x2_S64x7_n_01_n_n_01_2_11 x bandIdx)
    (broadcastInDim S64x7 ![] bcast_S_S64x7 (constant S_ .f32 0x00000000#32))

/-! ## The factors of a plane weight -/

def sq (w : FVec F S1x1x1x3x3 .f32) : FVec F S3x3 .f32 := shapeCast S3x3 w shapeCasts_S1x1x1x3x3_S3x3

/-- The flat position of an entry of largest magnitude. -/
def top (x : FVec F S3x3 .f32) : IVec S_ 32 :=
  fun j => (Host.argReduce reducer_argmax_f32_i32 (shapeCast S9 (Host.absf x) shapeCasts_S3x3_S9) (iotaInDim S9 32 0)
    (constant S_ .f32 0xFF800000#32) (word 0#32) reducesTo_S9_S_d0 h_S_ j).2

/-- The quotient by three rounded down. -/
def quot3 (p : IVec S_ 32) : IVec S_ 32 :=
  select (andi (cmpi .ne (signi p) (signi (word 3#32))) (cmpi .ne (Host.remsi p (word 3#32)) (word 0#32)))
    (subi (Host.divsi p (word 3#32)) (word 1#32)) (Host.divsi p (word 3#32))

/-- The divisor the remainder takes: three, or one where three is zero. -/
def three : IVec S_ 32 := select (cmpi .eq (word 3#32) (word 0#32)) (word 1#32) (word 3#32)

/-- The remainder by three of the divisor's sign. -/
def rem3 (p : IVec S_ 32) : IVec S_ 32 :=
  select (andi (cmpi .ne (cmpi .slt (Host.remsi p three) (word 0#32)) (cmpi .slt three (word 0#32)))
      (cmpi .ne (Host.remsi p three) (word 0#32)))
    (addi (Host.remsi p three) three) (Host.remsi p three)

/-- An index, counted from the end where it is negative. -/
def wrap3 (i : IVec S_ 32) : IVec S_ 32 := select (cmpi .slt i (word 0#32)) (addi i (word 3#32)) i

/-- The entry at a row and column. -/
def pivot (x : FVec F S3x3 .f32) (i j : IVec S_ 32) : FVec F S_ .f32 :=
  shapeCast S_ (Host.dynamicSlice S1x1 x (fun k => ((![wrap3 i, wrap3 j] : Fin 2 → IVec S_ 32) k (Shape.Idx.first h_S_)).toInt) sliceFits_S3x3_S1x1)
    shapeCasts_S1x1_S_

/-- The column `j`. -/
def colFac (x : FVec F S3x3 .f32) (j : IVec S_ 32) : FVec F S3 .f32 :=
  shapeCast S3 (Host.dynamicSlice S3x1 x (fun k => ((![wrap3 (word 0#32), wrap3 j] : Fin 2 → IVec S_ 32) k (Shape.Idx.first h_S_)).toInt) sliceFits_S3x3_S3x1)
    shapeCasts_S3x1_S3

/-- A scalar, or one where it is zero. -/
def nonzero (q : FVec F S_ .f32) : FVec F S_ .f32 :=
  select (cmpf .oeq q (constant S_ .f32 0x00000000#32)) (constant S_ .f32 0x3F800000#32) q

/-- The row `i` divided by the scalar `q` (by one where `q` is zero). -/
def rowFac (x : FVec F S3x3 .f32) (i : IVec S_ 32) (q : FVec F S_ .f32) : FVec F S3 .f32 :=
  Host.divf (shapeCast S3 (Host.dynamicSlice S1x3 x (fun k => ((![wrap3 i, wrap3 (word 0#32)] : Fin 2 → IVec S_ 32) k (Shape.Idx.first h_S_)).toInt) sliceFits_S3x3_S1x3)
      shapeCasts_S1x3_S3)
    (broadcastInDim S3 ![] bcast_S_S3 (nonzero q))

/-- The column factor of a plane weight. -/
def facU (w : FVec F S1x1x1x3x3 .f32) : FVec F S3 .f32 := colFac (sq w) (rem3 (top (sq w)))

/-- The row factor of a plane weight. -/
def facV (w : FVec F S1x1x1x3x3 .f32) : FVec F S3 .f32 :=
  rowFac (sq w) (quot3 (top (sq w))) (pivot (sq w) (quot3 (top (sq w))) (rem3 (top (sq w))))

/-- The matrix a plane weight acts by on the rows. -/
def rowsMat (w : FVec F S1x1x1x3x3 .f32) : FVec F S256x256 .f32 := tri256 (pick0 (facU w)) (pick1 (facU w)) (pick2 (facU w))

/-- The matrix a plane weight acts by on the columns. -/
def colsMat (w : FVec F S1x1x1x3x3 .f32) : FVec F S256x256 .f32 := tri256 (pick2 (facV w)) (pick1 (facV w)) (pick0 (facV w))

def mul256 (l r : FVec F S256x256 .f32) : FVec F S256x256 .f32 :=
  Host.dotGeneral dot_S256x256_S256x256_S256x256_1_0_0_1_n_n none l r

/-- The matrix multiplied from the left. -/
def leftMat (w1 w2 w3 w4 : FVec F S1x1x1x3x3 .f32) : FVec F S256x256 .f32 :=
  mul256 (rowsMat w4) (mul256 (rowsMat w3) (mul256 (rowsMat w2) (rowsMat w1)))

/-- The matrix multiplied from the right. -/
def rightMat (w1 w2 w3 w4 : FVec F S1x1x1x3x3 .f32) : FVec F S256x256 .f32 :=
  mul256 (mul256 (mul256 (colsMat w1) (colsMat w2)) (colsMat w3)) (colsMat w4)

end Cert.KernelIdeal.HostFns

end
-- ==== Proof.RealMath.lean ====
module

public import Mathlib.Data.Real.Basic
public import Mathlib.LinearAlgebra.Matrix.Notation
public import Mathlib.Data.Matrix.Mul
public import Mathlib.Algebra.BigOperators.Fin
public import Mathlib.Tactic.Ring
public import Mathlib.Tactic.Linarith
public import Mathlib.Tactic.FieldSimp
public import Mathlib.Tactic.FinCases

/-! The real linear algebra: three-tap convolutions with zero padding are products with tridiagonal matrices. -/

@[expose] public section

noncomputable section

namespace Cert.RealMath

/-- Entry `k` of a sequence with one zero put in front of it and zeros behind it. -/
def shifted {n : ℕ} (f : Fin n → ℝ) (k : ℕ) : ℝ := if h : 1 ≤ k ∧ k ≤ n then f ⟨k - 1, by omega⟩ else 0

/-- The three-tap convolution of a zero-padded sequence. -/
def conv1 {n : ℕ} (w : Fin 3 → ℝ) (f : Fin n → ℝ) (i : Fin n) : ℝ :=
  w 0 * shifted f i.val + w 1 * shifted f (i.val + 1) + w 2 * shifted f (i.val + 2)

/-- The three-by-three convolution of a zero-padded plane. -/
def conv2 {n : ℕ} (w : Fin 3 → Fin 3 → ℝ) (y : Matrix (Fin n) (Fin n) ℝ) : Matrix (Fin n) (Fin n) ℝ := fun i j =>
  ∑ k : Fin 3, ∑ l : Fin 3, w k l * shifted (fun p => shifted (fun q => y p q) (j.val + l.val)) (i.val + k.val)

/-- The tridiagonal matrix with `w 0` below the diagonal, `w 1` on it and `w 2` above it. -/
def tri (n : ℕ) (w : Fin 3 → ℝ) : Matrix (Fin n) (Fin n) ℝ := fun i j =>
  (if j.val + 1 = i.val then w 0 else 0) + (if j.val = i.val then w 1 else 0) + (if j.val = i.val + 1 then w 2 else 0)

/-- A padded entry as a sum that picks one place. -/
theorem shifted_eq_sum {n : ℕ} (f : Fin n → ℝ) (k : ℕ) : shifted f k = ∑ j : Fin n, if j.val + 1 = k then f j else 0 := by
  unfold shifted
  split_ifs with h
  · rw [Finset.sum_eq_single (⟨k - 1, by omega⟩ : Fin n)]
    · rw [if_pos (by show k - 1 + 1 = k; omega)]
    · intro b _ hb
      rw [if_neg]
      intro hk
      exact hb (Fin.ext (by show b.val = k - 1; omega))
    · intro hh; exact absurd (Finset.mem_univ _) hh
  · refine (Finset.sum_eq_zero fun j _ => ?_).symm
    rw [if_neg]
    have := j.isLt
    omega

/-- A row of the tridiagonal matrix against a sequence is the convolution. -/
theorem tri_mulVec {n : ℕ} (w : Fin 3 → ℝ) (f : Fin n → ℝ) : (tri n w).mulVec f = conv1 w f := by
  funext i
  show ∑ j, tri n w i j * f j = _
  simp only [conv1, shifted_eq_sum, Finset.mul_sum, ← Finset.sum_add_distrib]
  refine Finset.sum_congr rfl fun j _ => ?_
  simp only [tri, Nat.add_right_cancel_iff, add_mul, ite_mul, zero_mul, mul_ite, mul_zero]

/-- Padding commutes with a convolution taken in the other direction. -/
theorem shifted_conv1 {n : ℕ} (w : Fin 3 → ℝ) (y : Matrix (Fin n) (Fin n) ℝ) (j : Fin n) (k : ℕ) :
    shifted (fun p => conv1 w (y p) j) k
      = w 0 * shifted (fun p => shifted (fun q => y p q) j.val) k + w 1 * shifted (fun p => shifted (fun q => y p q) (j.val + 1)) k
        + w 2 * shifted (fun p => shifted (fun q => y p q) (j.val + 2)) k := by
  simp only [shifted.eq_1 _ k, conv1]
  split_ifs <;> ring

/-- A convolution whose weights are products is a tridiagonal matrix on either side. -/
theorem conv2_eq {n : ℕ} (w : Fin 3 → Fin 3 → ℝ) (u v : Fin 3 → ℝ) (h : ∀ k l, w k l = u k * v l) (y : Matrix (Fin n) (Fin n) ℝ) :
    conv2 w y = tri n u * y * (tri n v).transpose := by
  have hr : y * (tri n v).transpose = fun p j => conv1 v (y p) j := by
    funext p j
    rw [← tri_mulVec v (y p)]
    show ∑ q, y p q * tri n v j q = ∑ q, tri n v j q * y p q
    exact Finset.sum_congr rfl fun q _ => mul_comm _ _
  have hl : tri n u * (y * (tri n v).transpose) = fun i j => conv1 u (fun p => conv1 v (y p) j) i := by
    rw [hr]
    funext i j
    rw [← tri_mulVec u]
    rfl
  rw [Matrix.mul_assoc, hl]
  funext i j
  simp only [conv1.eq_1 u, shifted_conv1, conv2, Fin.sum_univ_three, h]
  simp only [Fin.val_zero, Fin.val_one, Fin.val_two, add_zero]
  ring

/-- Swapping the two outer weights transposes the tridiagonal matrix. -/
theorem tri_transpose (n : ℕ) (v : Fin 3 → ℝ) : (tri n v).transpose = tri n ![v 2, v 1, v 0] := by
  funext i j
  show tri n v j i = _
  simp only [tri, Matrix.cons_val_zero, Matrix.cons_val_one, Matrix.cons_val]
  have e1 : (i.val + 1 = j.val) = (j.val = i.val + 1) := propext eq_comm
  have e2 : (i.val = j.val) = (j.val = i.val) := propext eq_comm
  have e3 : (i.val = j.val + 1) = (j.val + 1 = i.val) := propext eq_comm
  simp only [e1, e2, e3]
  ring

/-- `A` vanishes further than `b` from its diagonal. -/
def Banded {n : ℕ} (b : ℕ) (A : Matrix (Fin n) (Fin n) ℝ) : Prop := ∀ i j : Fin n, (i.val + b < j.val ∨ j.val + b < i.val) → A i j = 0

theorem tri_banded (n : ℕ) (w : Fin 3 → ℝ) : Banded 1 (tri n w) := by
  intro i j h
  unfold tri
  rw [if_neg (by omega), if_neg (by omega), if_neg (by omega)]; simp

theorem Banded.mul {n a b : ℕ} {A B : Matrix (Fin n) (Fin n) ℝ} (hA : Banded a A) (hB : Banded b B) : Banded (a + b) (A * B) := by
  intro i j h
  show ∑ k, A i k * B k j = 0
  refine Finset.sum_eq_zero fun k _ => ?_
  by_cases hk : i.val + a < k.val ∨ k.val + a < i.val
  · rw [hA i k hk, zero_mul]
  · rw [hB k j (by omega), mul_zero]

/-- The depth matrix: three tridiagonal factors. -/
def depth (n : ℕ) (w1 w2 w3 : Fin 3 → ℝ) : Matrix (Fin n) (Fin n) ℝ := tri n w3 * tri n w2 * tri n w1

theorem depth_banded (n : ℕ) (w1 w2 w3 : Fin 3 → ℝ) : Banded 3 (depth n w1 w2 w3) :=
  ((tri_banded n w3).mul (tri_banded n w2)).mul (tri_banded n w1)

/-- Three convolutions in a row are the depth matrix. -/
theorem depth_mulVec {n : ℕ} (w1 w2 w3 : Fin 3 → ℝ) (f : Fin n → ℝ) :
    (depth n w1 w2 w3).mulVec f = conv1 w3 (conv1 w2 (conv1 w1 f)) := by
  rw [← tri_mulVec w3, ← tri_mulVec w2, ← tri_mulVec w1, Matrix.mulVec_mulVec, Matrix.mulVec_mulVec]
  rw [depth, Matrix.mul_assoc]

/-- One band entry: the matrix entry the tap reads, or zero outside the matrix. -/
def bandEntry {n : ℕ} (A : Matrix (Fin n) (Fin n) ℝ) (d : Fin n) (k : ℕ) : ℝ :=
  if h : 3 ≤ d.val + k ∧ d.val + k < n + 3 then A d ⟨d.val + k - 3, by omega⟩ else 0

/-- The place a tap reads, clamped into the sequence. -/
def clamp {n : ℕ} [NeZero n] (d : Fin n) (k : ℕ) : Fin n :=
  ⟨min (n - 1) (d.val + k - 3), by have := NeZero.pos n; omega⟩

/-- The seven clamped taps of a matrix of band three are its row. -/
theorem band_sum {n : ℕ} [NeZero n] (A : Matrix (Fin n) (Fin n) ℝ) (hA : Banded 3 A) (f : Fin n → ℝ) (d : Fin n) :
    ∑ k : Fin 7, bandEntry A d k.val * f (clamp d k.val) = A.mulVec f d := by
  have hk : ∀ k : Fin 7, bandEntry A d k.val * f (clamp d k.val) = ∑ e : Fin n, if e.val + 3 = d.val + k.val then A d e * f e else 0 := by
    intro k
    unfold bandEntry
    split_ifs with h
    · have hc : clamp d k.val = ⟨d.val + k.val - 3, by omega⟩ := Fin.ext (by show min _ _ = _; have := d.isLt; simp; omega)
      rw [hc, Finset.sum_eq_single (⟨d.val + k.val - 3, by omega⟩ : Fin n)]
      · rw [if_pos (by show d.val + k.val - 3 + 3 = _; omega)]
      · intro b _ hb
        rw [if_neg]
        intro he
        exact hb (Fin.ext (by show b.val = d.val + k.val - 3; omega))
      · intro hh; exact absurd (Finset.mem_univ _) hh
    · rw [zero_mul]
      refine (Finset.sum_eq_zero fun e _ => ?_).symm
      rw [if_neg]
      have := e.isLt
      omega
  rw [Finset.sum_congr rfl fun k _ => hk k, Finset.sum_comm]
  show _ = ∑ e, A d e * f e
  refine Finset.sum_congr rfl fun e _ => ?_
  by_cases hz : d.val + 3 < e.val ∨ e.val + 3 < d.val
  · rw [hA d e hz]; simp
  · rw [Finset.sum_eq_single (⟨e.val + 3 - d.val, by omega⟩ : Fin 7)]
    · rw [if_pos (by show _ = d.val + (e.val + 3 - d.val); omega)]
    · intro b _ hb
      rw [if_neg]
      intro he
      exact hb (Fin.ext (by show b.val = e.val + 3 - d.val; omega))
    · intro hh; exact absurd (Finset.mem_univ _) hh

/-- A matrix of rank at most one, with a largest entry at `(a, b)`, is the product of a column and a scaled row. -/
theorem rank_one_factor (w : Fin 3 → Fin 3 → ℝ) (hw : ∀ i j k l, w i k * w j l = w i l * w j k) (a b : Fin 3)
    (hmax : ∀ i j, |w i j| ≤ |w a b|) (i j : Fin 3) :
    w i j = w i b * (w a j / (if w a b = 0 then 1 else w a b)) := by
  split_ifs with h
  · have hz : ∀ i j, w i j = 0 := fun i j => by
      have := hmax i j
      rw [h, abs_zero] at this
      exact abs_eq_zero.1 (le_antisymm this (abs_nonneg _))
    rw [hz i j, hz i b, zero_mul]
  · rw [mul_div_assoc', eq_div_iff h]
    exact hw i a j b

end Cert.RealMath

end
-- ==== Proof.HostIdeal.lean ====
module

public import proofs.«01_k».proof.Proof.HostFns
public import proofs.«01_k».proof.Proof.RealMath
public import Idealize.ShloMosaic.Lib.Pointwise
public import Idealize.ShloMosaic.Lib.StackMember
public import Idealize.ShloMosaic.Lib.Pipeline.Value
public import Idealize.ShloMosaic.Lib.StableHlo.Predicate
public import Idealize.ShloMosaic.PureOps.Ideal.Laws

/-! The host matrices at exact arithmetic: on real arguments each is the real matrix of the same name. -/

@[expose] public section

set_option maxRecDepth 16384

noncomputable section

namespace Cert.KernelIdeal.HostFns

open Idealize.ShloMosaic Cert.KernelIdeal Cert.KernelIdeal.Gen Cert.RealMath

/-! ## Real arrays -/

/-- A real matrix as an array. -/
def cm {n m : ℕ} (A : Matrix (Fin n) (Fin m) ℝ) : FVec Ideal ⟨2, ![n, m]⟩ .f32 := fun i => ((A (i 0) (i 1) : ℝ) : EReal)
/-- A real number as an array without axes. -/
def cs (r : ℝ) : FVec Ideal S_ .f32 := fun _ => (r : EReal)
/-- Three real numbers as a short vector. -/
def cv (w : Fin 3 → ℝ) : FVec Ideal S3 .f32 := fun i => ((w (i 0) : ℝ) : EReal)
/-- Three real numbers as a depth weight. -/
def cd (w : Fin 3 → ℝ) : FVec Ideal S1x1x3x1x1 .f32 := fun i => ((w (i 2) : ℝ) : EReal)
/-- Nine real numbers as a plane weight. -/
def cp (w : Matrix (Fin 3) (Fin 3) ℝ) : FVec Ideal S1x1x1x3x3 .f32 := fun i => ((w (i 3) (i 4) : ℝ) : EReal)

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The host product of two real matrices is their real product. -/
theorem dot_cm {n k m : ℕ} (A : Matrix (Fin n) (Fin k) ℝ) (B : Matrix (Fin k) (Fin m) ℝ) :
    Host.dotGeneral (DotDims.plain n k m) none (cm A) (cm B) = cm (A * B) := by
  funext j
  obtain ⟨p, q, rfl⟩ : ∃ (p : Fin n) (q : Fin m), j = ValueIdx.ix2 p q := ⟨j 0, j 1, ValueIdx.eq_ix2 j⟩
  refine (StackMember.dotGeneral_plain_apply none (cm A) (cm B) p q).trans ?_
  show ∑ c, ((A p c : ℝ) : EReal) * ((B c q : ℝ) : EReal) = ((∑ c, A p c * B c q : ℝ) : EReal)
  rw [coe_sum]
  exact Finset.sum_congr rfl fun c _ => (EReal.coe_mul _ _).symm

theorem mul256_cm (A B : Matrix (Fin 256) (Fin 256) ℝ) : mul256 (cm A) (cm B) = cm (A * B) := dot_cm A B

theorem mul64_cm (A B : Matrix (Fin 64) (Fin 64) ℝ) :
    Host.dotGeneral dot_S64x64_S64x64_S64x64_1_0_0_1_n_n none (cm A) (cm B) = cm (A * B) := dot_cm A B

/-! ## Tridiagonal matrices -/

/-- One comparison bit as a real number. -/
theorem bit_real (i j b : BitVec 32) : (((IntOp.cmpi .eq (i + b) j).toNat : ℝ) : EReal) = ((if i + b = j then (1 : ℝ) else 0 : ℝ) : EReal) := by
  unfold IntOp.cmpi
  by_cases h : i + b = j <;> simp [h]

theorem word_sub {i j : ℕ} (hi : i < 256) (hj : j < 256) : (BitVec.ofNat 32 i + 4294967295#32 = BitVec.ofNat 32 j) = (j + 1 = i) := by
  have h : (4294967295#32 : BitVec 32) = -1#32 := by decide
  rw [h, ← BitVec.sub_eq_add_neg, BitVec.sub_eq_iff_eq_add, ← BitVec.toNat_inj]
  simp only [BitVec.toNat_add, BitVec.toNat_ofNat]
  exact propext (by omega)
theorem word_diag {i j : ℕ} (hi : i < 256) (hj : j < 256) : (BitVec.ofNat 32 i + 0#32 = BitVec.ofNat 32 j) = (j = i) := by
  rw [← BitVec.toNat_inj]; simp only [BitVec.toNat_add, BitVec.toNat_ofNat]
  exact propext (by omega)
theorem word_sup {i j : ℕ} (hi : i < 256) (hj : j < 256) : (BitVec.ofNat 32 i + 1#32 = BitVec.ofNat 32 j) = (j = i + 1) := by
  rw [← BitVec.toNat_inj]; simp only [BitVec.toNat_add, BitVec.toNat_ofNat]
  exact propext (by omega)

theorem diag256_apply (a : ℝ) (b : BitVec 32) (i j : Fin 256) :
    diag256 (cs a) b (ValueIdx.ix2 i j) = ((a * (if BitVec.ofNat 32 i.val + b = BitVec.ofNat 32 j.val then 1 else 0) : ℝ) : EReal) := by
  rw [EReal.coe_mul, ← bit_real]
  rfl

theorem diag64_apply (a : ℝ) (b : BitVec 32) (i j : Fin 64) :
    diag64 (cs a) b (ValueIdx.ix2 i j) = ((a * (if BitVec.ofNat 32 i.val + b = BitVec.ofNat 32 j.val then 1 else 0) : ℝ) : EReal) := by
  rw [EReal.coe_mul, ← bit_real]
  rfl

theorem tri256_cs (w : Fin 3 → ℝ) : tri256 (cs (w 0)) (cs (w 1)) (cs (w 2)) = cm (tri 256 w) := by
  funext j
  obtain ⟨p, q, rfl⟩ : ∃ (p q : Fin 256), j = ValueIdx.ix2 p q := ⟨j 0, j 1, ValueIdx.eq_ix2 j⟩
  have hp := p.isLt
  have hq := q.isLt
  show (diag256 (cs (w 0)) _ (ValueIdx.ix2 p q) + diag256 (cs (w 1)) _ (ValueIdx.ix2 p q)) + diag256 (cs (w 2)) _ (ValueIdx.ix2 p q) = ((tri 256 w p q : ℝ) : EReal)
  rw [diag256_apply, diag256_apply, diag256_apply, ← EReal.coe_add, ← EReal.coe_add]
  simp only [word_sub hp hq, word_diag hp hq, word_sup hp hq, mul_ite, mul_one, mul_zero, tri]

theorem tri64_cs (w : Fin 3 → ℝ) : tri64 (cs (w 0)) (cs (w 1)) (cs (w 2)) = cm (tri 64 w) := by
  funext j
  obtain ⟨p, q, rfl⟩ : ∃ (p q : Fin 64), j = ValueIdx.ix2 p q := ⟨j 0, j 1, ValueIdx.eq_ix2 j⟩
  have hp : p.val < 256 := by have := p.isLt; show p.val < 256; omega
  have hq : q.val < 256 := by have := q.isLt; show q.val < 256; omega
  show (diag64 (cs (w 0)) _ (ValueIdx.ix2 p q) + diag64 (cs (w 1)) _ (ValueIdx.ix2 p q)) + diag64 (cs (w 2)) _ (ValueIdx.ix2 p q) = ((tri 64 w p q : ℝ) : EReal)
  rw [diag64_apply, diag64_apply, diag64_apply, ← EReal.coe_add, ← EReal.coe_add]
  simp only [word_sub hp hq, word_diag hp hq, word_sup hp hq, mul_ite, mul_one, mul_zero, tri]

/-! ## The depth matrix and its band -/

theorem pick0_cv (w : Fin 3 → ℝ) : pick0 (cv w) = cs (w 0) := by
  funext j; pointwise [pick0, cv, cs]
theorem pick1_cv (w : Fin 3 → ℝ) : pick1 (cv w) = cs (w 1) := by
  funext j; pointwise [pick1, cv, cs]
theorem pick2_cv (w : Fin 3 → ℝ) : pick2 (cv w) = cs (w 2) := by
  funext j; pointwise [pick2, cv, cs]

theorem cast_cd (w : Fin 3 → ℝ) : shapeCast S3 (cd w) shapeCasts_S1x1x3x1x1_S3 = cv w := by
  funext j; idx_vars j; pointwise [cd, cv]

theorem sq_cp (w : Matrix (Fin 3) (Fin 3) ℝ) : sq (cp w) = cm w := by
  funext j; idx_vars j; pointwise [sq, cp, cm]

theorem depthTri_cd (w : Fin 3 → ℝ) : depthTri (cd w) = cm (tri 64 w) := by
  unfold depthTri
  rw [cast_cd]
  show tri64 (pick0 (cv w)) (pick1 (cv w)) (pick2 (cv w)) = _
  rw [pick0_cv, pick1_cv, pick2_cv, tri64_cs]

theorem depthMat_cd (w1 w2 w3 : Fin 3 → ℝ) : depthMat (cd w1) (cd w2) (cd w3) = cm (depth 64 w1 w2 w3) := by
  unfold depthMat
  rw [depthTri_cd, depthTri_cd, depthTri_cd, mul64_cm, mul64_cm, depth]

/-- Which band entries lie inside the matrix. -/
theorem bandIn_eq : ∀ (d : Fin 64) (k : Fin 7), bandIn (ValueIdx.ix2 d k) = if 3 ≤ d.val + k.val ∧ d.val + k.val < 64 + 3 then 1#1 else 0#1 := by
  decide +kernel

/-- The row and the column each band entry is gathered from. -/
theorem bandIdx_eq : ∀ (d : Fin 64) (k : Fin 7),
    gather_S64x64_S64x7x2_S64x7_n_01_n_n_01_2_11.operandIdx (ValueIdx.ix2 d k) bandIdx = ValueIdx.ix2 d (clamp d k.val) := by
  decide +kernel

theorem band_cm (A : Matrix (Fin 64) (Fin 64) ℝ) (d : Fin 64) (k : Fin 7) :
    band (cm A) (ValueIdx.ix2 d k) = ((bandEntry A d k.val : ℝ) : EReal) := by
  show Scalar.select (bandIn (ValueIdx.ix2 d k)) (cm A (gather_S64x64_S64x7x2_S64x7_n_01_n_n_01_2_11.operandIdx (ValueIdx.ix2 d k) bandIdx)) (Ideal.ofBits .f32 0x00000000#32) = _
  rw [bandIn_eq, bandIdx_eq, Ideal.ofBits_zero_f32, bandEntry]
  split_ifs with h
  · show ((A d (clamp d k.val) : ℝ) : EReal) = _
    congr 2
    exact Fin.ext (by show min _ _ = d.val + k.val - 3; simp; omega)
  · rfl

end Cert.KernelIdeal.HostFns

end
-- ==== Proof.BlockIdeal.lean ====
module

public import proofs.«01_k».proof.Proof.Block
public import proofs.«01_k».proof.Proof.HostIdeal
public import Idealize.ShloMosaic.Lib.MatmulPlain

/-! What the kernel body leaves at one grid point over the reals: its rows are slices of the depth product, between the two plane matrices. -/

@[expose] public section

set_option maxRecDepth 16384
set_option maxHeartbeats 1000000

noncomputable section

namespace Cert.KernelIdeal.Block

open Idealize.ShloMosaic Idealize.ShloMosaic.TcCoe Cert.KernelIdeal Cert.KernelIdeal.Gen Cert.RealMath Cert.KernelIdeal.HostFns

/-- A stack of real planes, as an array. -/
def c3 (X : Fin 64 → Fin 256 → Fin 256 → ℝ) : FVec Ideal S64x256x256 .f32 := fun i => ((X (i 0) (i 1) (i 2) : ℝ) : EReal)

/-- The kernel's product of two real matrices into zeros is their real product. -/
theorem mat_cm {n k m : ℕ} (A : Matrix (Fin n) (Fin k) ℝ) (B : Matrix (Fin k) (Fin m) ℝ) :
    matmul (F := Ideal) (φ₁ := .f32) (φ₂ := .f32) (DotDims.plain n k m) none (cm A) (cm B) (constant ⟨2, ![n, m]⟩ .f32 0x00000000#32) = cm (A * B) := by
  funext j
  obtain ⟨p, q, rfl⟩ : ∃ (p : Fin n) (q : Fin m), j = ValueIdx.ix2 p q := ⟨j 0, j 1, ValueIdx.eq_ix2 j⟩
  refine (Ideal.matmul_plain_apply none (cm A) (cm B) _ p q).trans ?_
  show Ideal.ofBits .f32 0x00000000#32 + ∑ c, ((A p c : ℝ) : EReal) * ((B c q : ℝ) : EReal) = ((∑ c, A p c * B c q : ℝ) : EReal)
  rw [Ideal.ofBits_zero_f32, zero_add, coe_sum]
  exact Finset.sum_congr rfl fun c _ => (EReal.coe_mul _ _).symm

/-- The depth row that line group `r` of point `i` holds. -/
def depthRow (i : grid0.Coords) (r : Fin 8) : Fin 64 := ⟨8 * (i 0).val + r.val, by have h : (i 0).val < 8 := (i 0).isLt; omega⟩

theorem off2_eq : ∀ (i : grid0.Coords) (r : Fin 8) (k : Fin 7),
    k0_off2 i (BitVec.ofNat 32 r.val) (BitVec.ofNat 32 k.val) = ![min 63 (8 * (i 0).val + r.val + k.val - 3), 0, 0] := by decide +kernel

/-- A slab read is the plane at the clamped depth. -/
theorem slab_c3 (i : grid0.Coords) (X : Fin 64 → Fin 256 → Fin 256 → ℝ) (r : Fin 8) (k : Fin 7) (p q : Fin 256) :
    slab i (c3 X) r k (ValueIdx.ix3 (0 : Fin 1) p q) = ((X (clamp (depthRow i r) k.val) p q : ℝ) : EReal) := by
  unfold slab
  refine (View.ld_unit_apply_of (Val := Elt Ideal) (S := S64x256x256) (e := .f32) (c3 X) _ _ (k0_off2_inb i r k) _ (ValueIdx.ix3 (clamp (depthRow i r) k.val) p q) fun a => ?_).trans rfl
  refine Eq.trans ?_ (congrArg (fun t => t a + _) (off2_eq i r k).symm)
  fin_cases a
  · show min (64 - 1) (8 * (i 0).val + r.val + k.val - 3) = min 63 (8 * (i 0).val + r.val + k.val - 3) + 0
    omega
  · show p.val = 0 + p.val; omega
  · show q.val = 0 + q.val; omega

/-- A coefficient read is the band's entry. -/
theorem coef_eq (b : FVec Ideal S64x7 .f32) (off : Fin 2 → ℕ) (inb : ∀ a, off a + S1x1.size a ≤ S64x7.size a) (d : Fin 64) (k : Fin 7)
    (h : off = ![d.val, k.val]) : coef b off inb = b (ValueIdx.ix2 d k) := by
  subst h
  unfold coef
  refine View.ld_unit_apply_of (Val := Elt Ideal) (S := S64x7) (e := .f32) b _ _ inb _ (ValueIdx.ix2 d k) fun a => ?_
  fin_cases a
  · show d.val = d.val + 0; omega
  · show k.val = k.val + 0; omega

/-- One tap adds a multiple of the plane read. -/
theorem tap_cm (A S : Matrix (Fin 256) (Fin 256) ℝ) (β : ℝ) (x : Vec Ideal S1x256x256 .f32)
    (hx : ∀ p q, x (ValueIdx.ix3 (0 : Fin 1) p q) = ((S p q : ℝ) : EReal)) :
    tap (F := Ideal) (cm A) ((β : ℝ) : EReal) x = cm (A + β • S) := by
  funext j
  obtain ⟨p, q, rfl⟩ : ∃ p q : Fin 256, j = ValueIdx.ix2 p q := ⟨j 0, j 1, ValueIdx.eq_ix2 j⟩
  show ((A p q : ℝ) : EReal) + ((β : ℝ) : EReal) * shapeCast S256x256 x shapeCasts_S1x256x256_S256x256 (ValueIdx.ix2 p q) = ((A p q + β * S p q : ℝ) : EReal)
  rw [shapeCast_apply _ _ _ (ValueIdx.ix3 (0 : Fin 1) p q) ?_, hx, EReal.coe_add, EReal.coe_mul]
  show (Shape.rowMajorPi ![1, 256, 256] (ValueIdx.ix3 (0 : Fin 1) p q)).val = (Shape.rowMajorPi ![256, 256] (ValueIdx.ix2 p q)).val
  rw [Shape.rowMajorPi_succ_val]
  show 0 * _ + (Shape.rowMajorPi ![256, 256] (ValueIdx.ix2 p q)).val = _
  simp

/-- The seven taps of a row add up to the depth product's plane. -/
theorem acc_cm (D : Matrix (Fin 64) (Fin 64) ℝ) (hD : Banded 3 D) (i : grid0.Coords) (b : FVec Ideal S64x7 .f32)
    (hb : ∀ (d : Fin 64) (k : Fin 7), b (ValueIdx.ix2 d k) = ((bandEntry D d k.val : ℝ) : EReal)) (X : Fin 64 → Fin 256 → Fin 256 → ℝ) (r : Fin 8) :
    acc (F := Ideal) i b (c3 X) r = cm (fun p q => D.mulVec (fun e => X e p q) (depthRow i r)) := by
  have hz : (broadcast S256x256 (Scalar.ofBits (F := Ideal) .f32 0x00000000#32) : FVec Ideal S256x256 .f32) = cm (0 : Matrix (Fin 256) (Fin 256) ℝ) := by
    funext j
    exact Ideal.ofBits_zero_f32
  have hc : ∀ (off : Fin 2 → ℕ) (inb) (k : Fin 7), off = ![(depthRow i r).val, k.val] →
      coef (F := Ideal) b off inb = ((bandEntry D (depthRow i r) k.val : ℝ) : EReal) := fun off inb k h => (coef_eq b off inb _ k h).trans (hb _ k)
  have hs : ∀ (k : Fin 7) (p q : Fin 256), _ := fun k => slab_c3 i X r k
  unfold acc
  rw [hz, hc _ _ 0 (k0_off1_eq i r), hc _ _ 1 (k0_off3_eq i r), hc _ _ 2 (k0_off4_eq i r), hc _ _ 3 (k0_off5_eq i r), hc _ _ 4 (k0_off6_eq i r),
    hc _ _ 5 (k0_off7_eq i r), hc _ _ 6 (k0_off8_eq i r)]
  rw [tap_cm _ _ _ _ (hs 0), tap_cm _ _ _ _ (hs 1), tap_cm _ _ _ _ (hs 2), tap_cm _ _ _ _ (hs 3), tap_cm _ _ _ _ (hs 4), tap_cm _ _ _ _ (hs 5), tap_cm _ _ _ _ (hs 6)]
  congr 1
  funext p q
  rw [← band_sum D hD]
  simp only [Fin.sum_univ_seven, Matrix.add_apply, Matrix.smul_apply, Matrix.zero_apply, smul_eq_mul, zero_add]
  rfl

/-- The plane of the depth product at row `d`. -/
def depthPlane (D : Matrix (Fin 64) (Fin 64) ℝ) (X : Fin 64 → Fin 256 → Fin 256 → ℝ) (d : Fin 64) : Matrix (Fin 256) (Fin 256) ℝ :=
  fun p q => D.mulVec (fun e => X e p q) d

/-- The block at point `i`: line `256 r + p`, column `q` holds the entry `(p, q)` of the left matrix times the depth plane times the right matrix. -/
theorem block_real (D : Matrix (Fin 64) (Fin 64) ℝ) (hD : Banded 3 D) (i : grid0.Coords) (b : FVec Ideal S64x7 .f32)
    (hb : ∀ (d : Fin 64) (k : Fin 7), b (ValueIdx.ix2 d k) = ((bandEntry D d k.val : ℝ) : EReal)) (X : Fin 64 → Fin 256 → Fin 256 → ℝ)
    (L R : Matrix (Fin 256) (Fin 256) ℝ) :
    k0_pay1 (F := Ideal) (scratch i b (c3 X) (cm L)) (cm R)
      = cm (n := 2048) (m := 256) fun a q => (L * depthPlane D X (depthRow i (lineRow a)) * R) (lineCol a) q := by
  have hr : ∀ r, rows (F := Ideal) i b (c3 X) (cm L) r = cm (L * depthPlane D X (depthRow i r)) := by
    intro r
    unfold rows k0_pay2
    dsimp only
    rw [shapeCast_self, shapeCast_self, acc_cm D hD i b hb X r]
    exact mat_cm L _
  have hs : scratch (F := Ideal) i b (c3 X) (cm L) = cm (n := 2048) (m := 256) fun a q => (L * depthPlane D X (depthRow i (lineRow a))) (lineCol a) q := by
    funext y
    unfold scratch
    rw [hr]
    rfl
  unfold k0_pay1
  dsimp only
  rw [hs, shapeCast_self]
  refine (mat_cm _ R).trans ?_
  congr 1

end Cert.KernelIdeal.Block

end
-- ==== Proof.Factors.lean ====
module

public import proofs.«01_k».proof.Proof.HostIdeal
public import Idealize.ShloMosaic.PureOps.Reduce
public import Idealize.ShloMosaic.Lib.IdealHost

/-! The two factors the host takes from a plane weight: the column and the scaled row through an entry of largest magnitude. -/

@[expose] public section

set_option maxRecDepth 16384

noncomputable section

namespace Cert.KernelIdeal.HostFns

open Idealize.ShloMosaic Cert.KernelIdeal Cert.KernelIdeal.Gen Cert.RealMath

/-! ## The entry of largest magnitude -/

/-- One step keeps one of its two pairs, and its value is at least both. -/
theorem argmax_step (a b : Ideal .f32 × BitVec 32) :
    (reducer_argmax_f32_i32 (F := Ideal) a b = a ∨ reducer_argmax_f32_i32 (F := Ideal) a b = b)
      ∧ (a.1 : EReal) ≤ (reducer_argmax_f32_i32 (F := Ideal) a b).1 ∧ (b.1 : EReal) ≤ (reducer_argmax_f32_i32 (F := Ideal) a b).1 := by
  obtain ⟨a1, a2⟩ := a
  obtain ⟨b1, b2⟩ := b
  change EReal at a1
  change EReal at b1
  have hne : Ideal.cmp .une a1 a1 = 0#1 := by simp [Ideal.cmp]
  by_cases h : b1 < a1
  · have hgt : Ideal.cmp .ogt a1 b1 = 1#1 := by simp [Ideal.cmp, h]
    have hr : reducer_argmax_f32_i32 (F := Ideal) (a1, a2) (b1, b2) = (a1, a2) := by
      simp only [reducer_argmax_f32_i32, Ideal.cmpf_def, hgt, hne]
      rcases BitVec.eq_zero_or_eq_one (Ideal.cmp .oeq a1 b1) with hs | hs <;> rw [hs] <;>
        rcases BitVec.eq_zero_or_eq_one (IntOp.cmpi .slt a2 b2) with ht | ht <;> rw [ht] <;> rfl
    rw [hr]
    exact ⟨Or.inl rfl, le_refl _, le_of_lt h⟩
  · have hgt : Ideal.cmp .ogt a1 b1 = 0#1 := by simp [Ideal.cmp, h]
    by_cases he : a1 = b1
    · subst he
      have heq : Ideal.cmp .oeq a1 a1 = 1#1 := by simp [Ideal.cmp]
      have hr : reducer_argmax_f32_i32 (F := Ideal) (a1, a2) (a1, b2) = (a1, a2) ∨ reducer_argmax_f32_i32 (F := Ideal) (a1, a2) (a1, b2) = (a1, b2) := by
        simp only [reducer_argmax_f32_i32, Ideal.cmpf_def, hgt, hne, heq]
        rcases BitVec.eq_zero_or_eq_one (IntOp.cmpi .slt a2 b2) with hs | hs <;> rw [hs]
        · right; rfl
        · left; rfl
      rcases hr with hr | hr <;> rw [hr]
      · exact ⟨Or.inl rfl, le_refl _, le_refl _⟩
      · exact ⟨Or.inr rfl, le_refl _, le_refl _⟩
    · have heq : Ideal.cmp .oeq a1 b1 = 0#1 := by simp [Ideal.cmp, he]
      have hr : reducer_argmax_f32_i32 (F := Ideal) (a1, a2) (b1, b2) = (b1, b2) := by
        simp only [reducer_argmax_f32_i32, Ideal.cmpf_def, hgt, hne, heq]
        rcases BitVec.eq_zero_or_eq_one (IntOp.cmpi .slt a2 b2) with hs | hs <;> rw [hs] <;> rfl
      rw [hr]
      exact ⟨Or.inr rfl, not_lt.1 h, le_refl _⟩

/-- A fold of such steps ends at one of the pairs it met, and its value is at least all of theirs. -/
theorem argmax_fold (l : List (Ideal .f32 × BitVec 32)) : ∀ a : Ideal .f32 × BitVec 32,
    (l.foldl (reducer_argmax_f32_i32 (F := Ideal)) a = a ∨ l.foldl (reducer_argmax_f32_i32 (F := Ideal)) a ∈ l)
      ∧ (a.1 : EReal) ≤ (l.foldl (reducer_argmax_f32_i32 (F := Ideal)) a).1
      ∧ ∀ p ∈ l, (p.1 : EReal) ≤ (l.foldl (reducer_argmax_f32_i32 (F := Ideal)) a).1 := by
  induction l with
  | nil => exact fun a => ⟨Or.inl rfl, le_refl _, fun p hp => absurd hp List.not_mem_nil⟩
  | cons b l ih =>
    intro a
    obtain ⟨hm, ha, hl⟩ := ih (reducer_argmax_f32_i32 (F := Ideal) a b)
    obtain ⟨hs, hsa, hsb⟩ := argmax_step a b
    refine ⟨?_, le_trans hsa ha, fun p hp => ?_⟩
    · rcases hm with hm | hm
      · rcases hs with hs | hs
        · left; exact hm.trans hs
        · right; rw [List.foldl_cons, hm, hs]; exact List.mem_cons_self
      · right; exact List.mem_cons_of_mem _ hm
    · rcases List.mem_cons.1 hp with rfl | hp
      · exact le_trans hsb ha
      · exact hl p hp

/-- The magnitudes of a three by three matrix in one line. -/
theorem flat_cm (w : Matrix (Fin 3) (Fin 3) ℝ) (k : Fin 9) :
    shapeCast S9 (Host.absf (cm (n := 3) (m := 3) w)) shapeCasts_S3x3_S9 (ValueIdx.ix1 k)
      = ((|w ⟨k.val / 3, by omega⟩ ⟨k.val % 3, by omega⟩| : ℝ) : EReal) := by
  rw [shapeCast_apply _ _ _ (ValueIdx.ix2 (⟨k.val / 3, by omega⟩ : Fin 3) (⟨k.val % 3, by omega⟩ : Fin 3))
    (by revert k; decide)]
  show max ((w _ _ : ℝ) : EReal) (-((w _ _ : ℝ) : EReal)) = _
  rw [← EReal.coe_neg, abs]
  exact (EReal.coe_strictMono.monotone.map_max).symm

/-- The flat position the host picks is that of an entry of largest magnitude. -/
theorem top_cm (w : Matrix (Fin 3) (Fin 3) ℝ) : ∃ k : Fin 9, (∀ i j, |w i j| ≤ |w ⟨k.val / 3, by omega⟩ ⟨k.val % 3, by omega⟩|)
    ∧ top (cm (n := 3) (m := 3) w) = word (BitVec.ofNat 32 k.val) := by
  set x := shapeCast S9 (Host.absf (cm (n := 3) (m := 3) w)) shapeCasts_S3x3_S9 with hx
  have hmem : ∀ k : Fin 9, (x (ValueIdx.ix1 k), BitVec.ofNat 32 k.val) ∈ Host.argReduceFiber x (iotaInDim S9 32 0) reducesTo_S9_S_d0 (Shape.Idx.first h_S_) := by
    intro k
    refine List.mem_map.2 ⟨S9.rowMajor (ValueIdx.ix1 k), List.mem_filter.2 ⟨List.mem_finRange _, ?_⟩, ?_⟩
    · exact decide_eq_true (funext fun a => a.elim0)
    · rw [Equiv.symm_apply_apply]; rfl
  have hof : ∀ p ∈ Host.argReduceFiber x (iotaInDim S9 32 0) reducesTo_S9_S_d0 (Shape.Idx.first h_S_), ∃ k : Fin 9, p = (x (ValueIdx.ix1 k), BitVec.ofNat 32 k.val) := by
    intro p hp
    obtain ⟨n, -, rfl⟩ := List.mem_map.1 hp
    exact ⟨S9.rowMajor.symm n 0, by exact congrArg (fun q => (x q, BitVec.ofNat 32 (S9.rowMajor.symm n 0).val)) (ValueIdx.eq_ix1 (S9.rowMajor.symm n))⟩
  obtain ⟨hm, -, hl⟩ := argmax_fold (Host.argReduceFiber x (iotaInDim S9 32 0) reducesTo_S9_S_d0 (Shape.Idx.first h_S_)) ((⊥ : EReal), 0#32)
  have htop : top (cm (n := 3) (m := 3) w) = fun _ => ((Host.argReduceFiber x (iotaInDim S9 32 0) reducesTo_S9_S_d0 (Shape.Idx.first h_S_)).foldl
      (reducer_argmax_f32_i32 (F := Ideal)) ((⊥ : EReal), 0#32)).2 := by
    funext j
    have hj : j = Shape.Idx.first h_S_ := funext fun a => a.elim0
    subst hj
    unfold top
    rw [Ideal.argReduce_eq_reduce2, Host.reduce2_eq_foldl_fiber]
    have hb : constant (F := Ideal) S_ .f32 0xFF800000#32 (Shape.Idx.first h_S_) = (⊥ : EReal) := by
      show Ideal.ofBits .f32 0xFF800000#32 = ⊥
      simp [Ideal.ofBits, Ideal.ieee]
    rw [hb]
    rfl
  generalize ((Host.argReduceFiber x (iotaInDim S9 32 0) reducesTo_S9_S_d0 (Shape.Idx.first h_S_)).foldl
      (reducer_argmax_f32_i32 (F := Ideal)) ((⊥ : EReal), 0#32)) = r at *
  have hr : ∃ k : Fin 9, r = (x (ValueIdx.ix1 k), BitVec.ofNat 32 k.val) := by
    rcases hm with hm | hm
    · exfalso
      have h0 := hl _ (hmem 0)
      rw [hm, hx, flat_cm] at h0
      exact absurd (le_bot_iff.1 h0) (EReal.coe_ne_bot _)
    · exact hof r hm
  obtain ⟨k, hk⟩ := hr
  refine ⟨k, fun i j => ?_, ?_⟩
  · have hij := hl _ (hmem ⟨3 * i.val + j.val, by omega⟩)
    rw [hk] at hij
    change x _ ≤ x _ at hij
    rw [hx, flat_cm, flat_cm, EReal.coe_le_coe_iff] at hij
    have e1 : (⟨(3 * i.val + j.val) / 3, by omega⟩ : Fin 3) = i := Fin.ext (by show (3 * i.val + j.val) / 3 = i.val; omega)
    have e2 : (⟨(3 * i.val + j.val) % 3, by omega⟩ : Fin 3) = j := Fin.ext (by show (3 * i.val + j.val) % 3 = j.val; omega)
    simpa only [e1, e2] using hij
  · rw [htop, hk]; rfl

/-! ## The factors -/

theorem quot3_word : ∀ k : Fin 9, quot3 (word (BitVec.ofNat 32 k.val)) (Shape.Idx.first h_S_) = BitVec.ofNat 32 (k.val / 3) := by decide +kernel
theorem rem3_word : ∀ k : Fin 9, rem3 (word (BitVec.ofNat 32 k.val)) (Shape.Idx.first h_S_) = BitVec.ofNat 32 (k.val % 3) := by decide +kernel

/-- An array without axes is its one word. -/
theorem eq_word (p : IVec S_ 32) (b : BitVec 32) (h : p (Shape.Idx.first h_S_) = b) : p = word b := by
  funext j
  rw [show j = Shape.Idx.first h_S_ from funext fun a => a.elim0, h]; rfl

theorem wrap3_word : ∀ k : Fin 3, (wrap3 (word (BitVec.ofNat 32 k.val)) (Shape.Idx.first h_S_)).toInt = k.val := by decide +kernel

theorem wrap3_zero : (wrap3 (word 0#32) (Shape.Idx.first h_S_)).toInt = 0 := by decide +kernel

theorem pivot_cm (w : Matrix (Fin 3) (Fin 3) ℝ) (a b : Fin 3) :
    pivot (cm (n := 3) (m := 3) w) (word (BitVec.ofNat 32 a.val)) (word (BitVec.ofNat 32 b.val)) = cs (w a b) := by
  have ha := a.isLt
  have hb := b.isLt
  funext j
  obtain rfl : j = Shape.Idx.first h_S_ := funext fun a => a.elim0
  unfold pivot
  rw [shapeCast_apply _ _ _ (ValueIdx.ix2 (0 : Fin 1) (0 : Fin 1)) (by decide), Host.dynamicSlice]
  refine (extractStridedSlice_apply _ _ _ _ (ValueIdx.ix2 a b) ?_).trans ?_
  swap; · rfl
  · intro k
    fin_cases k
    · show a.val = (min (max ((wrap3 (word (BitVec.ofNat 32 a.val)) (Shape.Idx.first h_S_)).toInt) 0) 2).toNat + 0
      rw [wrap3_word]; omega
    · show b.val = (min (max ((wrap3 (word (BitVec.ofNat 32 b.val)) (Shape.Idx.first h_S_)).toInt) 0) 2).toNat + 0
      rw [wrap3_word]; omega

theorem colFac_cm (w : Matrix (Fin 3) (Fin 3) ℝ) (b : Fin 3) :
    colFac (cm (n := 3) (m := 3) w) (word (BitVec.ofNat 32 b.val)) = cv fun i => w i b := by
  have hb := b.isLt
  funext j
  obtain ⟨i, rfl⟩ : ∃ i : Fin 3, j = ValueIdx.ix1 i := ⟨j 0, ValueIdx.eq_ix1 j⟩
  have hi := i.isLt
  unfold colFac
  rw [shapeCast_apply _ _ _ (ValueIdx.ix2 i (0 : Fin 1)) (by revert i; decide), Host.dynamicSlice]
  refine (extractStridedSlice_apply _ _ _ _ (ValueIdx.ix2 i b) ?_).trans ?_
  swap; · rfl
  · intro k
    fin_cases k
    · show i.val = (min (max ((wrap3 (word 0#32) (Shape.Idx.first h_S_)).toInt) 0) 0).toNat + i.val
      rw [wrap3_zero]; omega
    · show b.val = (min (max ((wrap3 (word (BitVec.ofNat 32 b.val)) (Shape.Idx.first h_S_)).toInt) 0) 2).toNat + 0
      rw [wrap3_word]; omega

theorem nonzero_cs (r : ℝ) : nonzero (cs r) = cs (if r = 0 then 1 else r) := by
  funext j
  show Scalar.select (Ideal.cmp .oeq ((r : ℝ) : EReal) (Ideal.ofBits .f32 0x00000000#32)) (Ideal.ofBits .f32 0x3F800000#32) ((r : ℝ) : EReal) = _
  have h1 : Ideal.ofBits .f32 0x3F800000#32 = ((1 : ℝ) : EReal) := Ideal.ofBits_one_f32
  rw [Ideal.ofBits_zero_f32, h1]
  by_cases h : r = 0
  · simp [Ideal.cmp, h, cs, Scalar.select]
  · simp [Ideal.cmp, h, cs, Scalar.select]

theorem div_real (x y : ℝ) (hy : y ≠ 0) : Ideal.div (x : EReal) (y : EReal) = ((x / y : ℝ) : EReal) := by
  unfold Ideal.div
  rw [if_neg (by simpa using hy), div_eq_mul_inv, EReal.coe_mul, EReal.coe_inv]

theorem rowFac_cm (w : Matrix (Fin 3) (Fin 3) ℝ) (a : Fin 3) (r : ℝ) :
    rowFac (cm (n := 3) (m := 3) w) (word (BitVec.ofNat 32 a.val)) (cs r) = cv fun j => w a j / (if r = 0 then 1 else r) := by
  have ha := a.isLt
  funext j
  obtain ⟨i, rfl⟩ : ∃ i : Fin 3, j = ValueIdx.ix1 i := ⟨j 0, ValueIdx.eq_ix1 j⟩
  have hi := i.isLt
  unfold rowFac
  rw [nonzero_cs]
  show Ideal.div (shapeCast S3 _ _ (ValueIdx.ix1 i)) (((if r = 0 then 1 else r : ℝ)) : EReal) = _
  rw [shapeCast_apply _ _ _ (ValueIdx.ix2 (0 : Fin 1) i) (by revert i; decide), Host.dynamicSlice]
  refine (congrArg (Ideal.div · (((if r = 0 then 1 else r : ℝ)) : EReal)) (extractStridedSlice_apply _ _ _ _ (ValueIdx.ix2 a i) ?_)).trans ?_
  swap; · exact div_real _ _ (by split_ifs with h; exacts [one_ne_zero, h])
  · intro k
    fin_cases k
    · show a.val = (min (max ((wrap3 (word (BitVec.ofNat 32 a.val)) (Shape.Idx.first h_S_)).toInt) 0) 2).toNat + 0
      rw [wrap3_word]; omega
    · show i.val = (min (max ((wrap3 (word 0#32) (Shape.Idx.first h_S_)).toInt) 0) 0).toNat + i.val
      rw [wrap3_zero]; omega

/-- The factors of a plane weight of rank at most one multiply back to it. -/
theorem factors_cp (w : Matrix (Fin 3) (Fin 3) ℝ) (hw : ∀ i j k l, w i k * w j l = w i l * w j k) :
    ∃ u v : Fin 3 → ℝ, (∀ i j, w i j = u i * v j) ∧ facU (cp w) = cv u ∧ facV (cp w) = cv v := by
  obtain ⟨k, hmax, htop⟩ := top_cm w
  have hq : quot3 (top (cm (n := 3) (m := 3) w)) = word (BitVec.ofNat 32 (k.val / 3)) := by
    rw [htop]; exact eq_word _ _ (quot3_word k)
  have hr : rem3 (top (cm (n := 3) (m := 3) w)) = word (BitVec.ofNat 32 (k.val % 3)) := by
    rw [htop]; exact eq_word _ _ (rem3_word k)
  refine ⟨_, _, rank_one_factor w hw ⟨k.val / 3, by omega⟩ ⟨k.val % 3, by omega⟩ hmax, ?_, ?_⟩
  · unfold facU
    rw [sq_cp, hr]
    exact colFac_cm w ⟨k.val % 3, by omega⟩
  · unfold facV
    rw [sq_cp, hr, hq]
    rw [show pivot (cm (n := 3) (m := 3) w) (word (BitVec.ofNat 32 (k.val / 3))) (word (BitVec.ofNat 32 (k.val % 3))) = _ from
      pivot_cm w ⟨k.val / 3, by omega⟩ ⟨k.val % 3, by omega⟩]
    exact rowFac_cm w ⟨k.val / 3, by omega⟩ _

/-! ## The two plane matrices -/

theorem rowsMat_cp (w : Matrix (Fin 3) (Fin 3) ℝ) (u : Fin 3 → ℝ) (h : facU (cp w) = cv u) : rowsMat (cp w) = cm (tri 256 u) := by
  unfold rowsMat
  rw [h, pick0_cv, pick1_cv, pick2_cv, tri256_cs]

theorem colsMat_cp (w : Matrix (Fin 3) (Fin 3) ℝ) (v : Fin 3 → ℝ) (h : facV (cp w) = cv v) : colsMat (cp w) = cm (tri 256 v).transpose := by
  unfold colsMat
  rw [h, pick0_cv, pick1_cv, pick2_cv, tri_transpose, ← tri256_cs]
  rfl

end Cert.KernelIdeal.HostFns

end
-- ==== Proof.HostRead.lean ====
/- What the launch finds in its four operand arrays: the reshaped input, the band of the depth matrix, and the two
   plane matrices, each as the functions of `HostFns` of the argument buffers. -/
module

public import proofs.«01_k».proof.Proof.HostFns
public import proofs.«01_k».proof.Proof.Gen.KernelIdeal.Frame.Runs
public import Idealize.ShloMosaic.Lib.StableHlo.RunRead

@[expose] public section

set_option maxRecDepth 16384
set_option maxHeartbeats 40000000

noncomputable section

namespace Cert.KernelIdeal.HostRead

open Idealize.ShloMosaic Idealize.ShloMosaic.TcCoe Cert.KernelIdeal Cert.KernelIdeal.Gen Cert.KernelIdeal.HostFns

variable {F : FTy → Type} [FloatOps F]
variable (m : (ℓ : Loc nD τ sig) → Buf (Elt F) ℓ) (c : Dev nD)

/-- The contents of an argument buffer at launch. -/
abbrev arg (b : Ref sig .tc) : Buf (Elt F) ((c : Thread nD τ).loc b) := m ((c : Thread nD τ).loc b)

theorem V_input : V m c main_call0_v0 = shapeCast S64x256x256 (arg m c main_arg0) shapeCasts_S1x1x64x256x256_S64x256x256 := by
  dsimp only [V, V0, List.flatten]
  after_reads_simp
  rfl

theorem V_band : V m c main_call0_v132 = band (depthMat (arg m c main_arg1) (arg m c main_arg2) (arg m c main_arg3)) := by
  dsimp only [V, V0, List.flatten]
  after_reads_simp [StableHlo.unaryIndexed_result', StableHlo.binaryIndexed_result', StableHlo.TRef.ofBuf_toBuf]
  refine congrArg₂ (fun x y => select bandIn (Host.gather gather_S64x64_S64x7x2_S64x7_n_01_n_n_01_2_11 x y) _) ?_ ?_
  · rfl
  · refine StableHlo.concatenate_congr _ _ ?_ _ _
    refine congrArg₂ (fun x y : IVec S64x7x1 32 => ([⟨S64x7x1, x⟩, ⟨S64x7x1, y⟩] : List ((s : Shape) × (s.Idx → BitVec 32)))) ?_ ?_
    · after_reads_simp [StableHlo.TRef.ofBuf_toBuf]
      rfl
    · after_reads_simp [StableHlo.TRef.ofBuf_toBuf]
      rfl

theorem V_left : V m c main_call0_v529 =
    leftMat (arg m c main_arg4) (arg m c main_arg5) (arg m c main_arg6) (arg m c main_arg7) := by
  dsimp only [V, V0, List.flatten]
  after_reads_simp [StableHlo.unaryIndexed_result_read, StableHlo.indexContents_tref_cons, StableHlo.indexContents_tref_empty,
    StableHlo.TRef.ofBuf_toBuf]
  rfl

theorem V_right : V m c main_call0_v530 =
    rightMat (arg m c main_arg4) (arg m c main_arg5) (arg m c main_arg6) (arg m c main_arg7) := by
  dsimp only [V, V0, List.flatten]
  after_reads_simp [StableHlo.unaryIndexed_result_read, StableHlo.indexContents_tref_cons, StableHlo.indexContents_tref_empty,
    StableHlo.TRef.ofBuf_toBuf]
  rfl

end Cert.KernelIdeal.HostRead

end
-- ==== Proof.KernelValue.lean ====
module

public import proofs.«01_k».proof.Proof.BlockIdeal
public import proofs.«01_k».proof.Proof.Factors
public import proofs.«01_k».proof.Proof.HostRead
public import Idealize.ShloMosaic.Lib.StableHlo.RunRead

/-! The kernel's result over the reals: every plane is the left matrix times the depth product's plane times the right matrix. -/

@[expose] public section

set_option maxRecDepth 16384
set_option maxHeartbeats 1000000

noncomputable section

namespace Cert.KernelIdeal.Value

open Idealize.ShloMosaic Idealize.ShloMosaic.TcCoe Idealize.ShloMosaic.Tactic Cert.KernelIdeal Cert.KernelIdeal.Gen Cert.RealMath
open Cert.KernelIdeal.HostFns Cert.KernelIdeal.HostRead Cert.KernelIdeal.Block

/-- Every window's block index. -/
theorem idx : ∀ t : Fin cfg0.N, win0_0.index t = ![0, 0] ∧ win0_1.index t = ![0, 0, 0] ∧ win0_2.index t = ![0, 0] ∧ win0_3.index t = ![0, 0]
    ∧ win0_4.index t = ![(grid0.coords t 0).val, 0] :=
  (by decide +kernel : ∀ t : Fin grid0.N, _)

section
variable {F : FTy → Type} [FloatOps F]
variable (m : (ℓ : Loc nD τ sig) → Buf (Elt F) ℓ) (c : Dev nD) (t : Fin cfg0.N)

/-- The four operand blocks are the whole operand arrays. -/
theorem iblk_band : iblk m c 0 t = V m c main_call0_v132 := by blk_ext! [iblk, (idx t).1]
theorem iblk_input : iblk m c 1 t = V m c main_call0_v0 := by blk_ext! [iblk, (idx t).2.1]
theorem iblk_left : iblk m c 2 t = V m c main_call0_v529 := by blk_ext! [iblk, (idx t).2.2.1]
theorem iblk_right : iblk m c 3 t = V m c main_call0_v530 := by blk_ext! [iblk, (idx t).2.2.2.1]

/-- The host line after the region gives the result the region's array, in the result's shape. -/
theorem tail_read : Pipeline.afterTail₀ cfgs (dats m) 0 (V0 m) [hostOps1] c main_v0
    = shapeCast S1x1x64x256x256 ((dats m 0 c).arrAt 4 cfg0.N) shapeCasts_S16384x256_S1x1x64x256x256 := by
  unfold Pipeline.afterTail₀
  dsimp only [List.flatten]
  after_reads_simp
  exact congrArg (fun x => shapeCast S1x1x64x256x256 x shapeCasts_S16384x256_S1x1x64x256x256)
    (Pipeline.withArrays_arr spec0 winFacts0.arr_inj c (V0 m c) (fun w => (dats m 0 c).arrAt w cfg0.N) 4)
end

/-- A stack of planes as one array of lines. -/
def lines (Y : Fin 64 → Matrix (Fin 256) (Fin 256) ℝ) : FVec Ideal S16384x256 .f32 :=
  cm (n := 16384) (m := 256) fun a q => Y ⟨a.val / 256, by omega⟩ ⟨a.val % 256, by omega⟩ q

/-- A stack of planes in the result's shape. -/
def c5 (Y : Fin 64 → Matrix (Fin 256) (Fin 256) ℝ) : FVec Ideal S1x1x64x256x256 .f32 := fun i => ((Y (i 2) (i 3) (i 4) : ℝ) : EReal)

theorem cast_c5 (X : Fin 64 → Matrix (Fin 256) (Fin 256) ℝ) : shapeCast S64x256x256 (c5 X) shapeCasts_S1x1x64x256x256_S64x256x256 = c3 X := by
  funext j; idx_vars j; pointwise [c5, c3]

theorem cast_lines (Y : Fin 64 → Matrix (Fin 256) (Fin 256) ℝ) : shapeCast S1x1x64x256x256 (lines Y) shapeCasts_S16384x256_S1x1x64x256x256 = c5 Y := by
  funext j
  obtain ⟨z, o, d, p, q, rfl⟩ : ∃ (z o : Fin 1) (d : Fin 64) (p q : Fin 256), j = ValueIdx.ix5 z o d p q := ⟨j 0, j 1, j 2, j 3, j 4, ValueIdx.eq_ix5 j⟩
  refine (shapeCast_apply _ _ _ (ValueIdx.ix2 (⟨256 * d.val + p.val, by omega⟩ : Fin 16384) q) ?_).trans ?_
  · show (Shape.rowMajorPi ![16384, 256] (ValueIdx.ix2 (⟨256 * d.val + p.val, by omega⟩ : Fin 16384) q)).val = (Shape.rowMajorPi ![1, 1, 64, 256, 256] (ValueIdx.ix5 z o d p q)).val
    simp only [Shape.rowMajorPi_succ_val, Shape.rowMajorPi_zero]
    show (256 * d.val + p.val) * 256 + (q.val * 1 + 0) = z.val * 4194304 + (o.val * 4194304 + (d.val * 65536 + (p.val * 256 + (q.val * 1 + 0))))
    omega
  · have e1 : (⟨(256 * d.val + p.val) / 256, by omega⟩ : Fin 64) = d := Fin.ext (by show (256 * d.val + p.val) / 256 = d.val; omega)
    have e2 : (⟨(256 * d.val + p.val) % 256, by omega⟩ : Fin 256) = p := Fin.ext (by show (256 * d.val + p.val) % 256 = p.val; omega)
    show ((Y ⟨(256 * d.val + p.val) / 256, _⟩ ⟨(256 * d.val + p.val) % 256, _⟩ q : ℝ) : EReal) = ((Y d p q : ℝ) : EReal)
    rw [e1, e2]

variable (m : (ℓ : Loc nD τ sig) → Buf (Elt Ideal) ℓ) (c : Dev nD)

theorem block_congr (i : grid0.Coords) {b b' : FVec Ideal S64x7 .f32} {x x' : FVec Ideal S64x256x256 .f32} {l l' r r' : FVec Ideal S256x256 .f32}
    (hb : b = b') (hx : x = x') (hl : l = l') (hr : r = r') : k0_pay1 (F := Ideal) (scratch i b x l) r = k0_pay1 (F := Ideal) (scratch i b' x' l') r' := by
  subst hb hx hl hr; rfl

/-- The region's array after the run, from what the launch finds in the operand arrays. -/
theorem region_array (D : Matrix (Fin 64) (Fin 64) ℝ) (hD : Banded 3 D) (X : Fin 64 → Matrix (Fin 256) (Fin 256) ℝ) (L R : Matrix (Fin 256) (Fin 256) ℝ)
    (hb : V m c main_call0_v132 = band (cm D)) (hx : V m c main_call0_v0 = c3 X) (hl : V m c main_call0_v529 = cm L) (hr : V m c main_call0_v530 = cm R) :
    (dats m 0 c).arrAt 4 cfg0.N = lines fun d => L * depthPlane D X d * R := by
  refine (dats m 0 c).arrAt_eq_of_covers 4 _ (by decide +kernel) fun t hf y => ?_
  blk_simp
  rw [after0_4, outsAt_eq]
  have e := (block_congr (grid0.coords t) ((iblk_band m c t).trans hb) ((iblk_input m c t).trans hx) ((iblk_left m c t).trans hl) ((iblk_right m c t).trans hr)).trans
    (block_real D hD (grid0.coords t) (band (cm D)) (band_cm D) X L R)
  refine (congrFun e y).trans ?_
  have hi : (grid0.coords t 0).val < 8 := (grid0.coords t 0).isLt
  have hy : (y 0).val < 2048 := (y 0).isLt
  have h0 : ((((cfg0.win 4).blk t).view.emb y) 0).val = (grid0.coords t 0).val * 2048 + (y 0).val := by blk_simp [(idx t).2.2.2.2]
  have h1 : ((((cfg0.win 4).blk t).view.emb y) 1).val = (y 1).val := by blk_simp [(idx t).2.2.2.2]
  generalize ((cfg0.win 4).blk t).view.emb y = z at h0 h1
  have e0 : depthRow (grid0.coords t) (lineRow (y 0)) = (⟨(z 0).val / 256, by rw [h0]; omega⟩ : Fin 64) :=
    Fin.ext (by show 8 * (grid0.coords t 0).val + (y 0).val / 256 = (z 0).val / 256; rw [h0]; omega)
  have e1 : lineCol (y 0) = (⟨(z 0).val % 256, by omega⟩ : Fin 256) :=
    Fin.ext (by show (y 0).val % 256 = (z 0).val % 256; rw [h0]; omega)
  have e2 : (y 1 : Fin 256) = z 1 := Fin.ext h1.symm
  show (((L * depthPlane D X (depthRow (grid0.coords t) (lineRow (y 0))) * R) (lineCol (y 0)) (y 1) : ℝ) : EReal)
    = (((L * depthPlane D X ⟨(z 0).val / 256, _⟩ * R) ⟨(z 0).val % 256, _⟩ (z 1) : ℝ) : EReal)
  rw [e0, e1, e2]

end Cert.KernelIdeal.Value

end
-- ==== Proof.Precondition.lean ====
module

public import proofs.«01_k».proof.Defs
public import proofs.«01_k».proof.Proof.KernelValue

/-! What the precondition says over the extended reals: every argument is an array of real numbers, and every plane weight is of rank at most one. -/

@[expose] public section

set_option maxRecDepth 16384
set_option maxHeartbeats 1000000

noncomputable section

namespace Cert.Precondition

open Idealize.ShloMosaic Cert.Pre_separable
open Cert.KernelIdeal.HostFns (cd cp cm)
open Cert.KernelIdeal.Value (c5)

/-- The shape facts that the predicate's operations take. -/
theorem shapes : Cert.Pre_separable.Facts where
  bcast_S_S1x1x64x256x256 := by decide
  bcast_S_S1x1x3x1x1 := by decide
  bcast_S_S1x1x1x3x3 := by decide
  shapeCasts_S1x1x1x3x3_S3x3 := by decide
  shapeCasts_S3x3_S3x1x3x1 := by decide
  shapeCasts_S3x3_S1x3x1x3 := by decide
  bcast_S3x1x3x1_S3x3x3x3_0_1_2_3 := by decide
  bcast_S1x3x1x3_S3x3x3x3_0_1_2_3 := by decide
  transposes_S3x3x3x3_S3x3x3x3_0_1_3_2 := by decide

theorem inf_eq : Ideal.ofBits .f32 0x7F800000#32 = ⊤ := by
  simp [Ideal.ofBits, Ideal.ieee]

/-- A magnitude below infinity is that of a real number. -/
theorem real_of_finite (x : EReal) (h : Ideal.cmp .olt (max x (-x)) (Ideal.ofBits .f32 0x7F800000#32) = 1#1) : ((x.toReal : ℝ) : EReal) = x := by
  rw [inf_eq] at h
  have h' : max x (-x) < ⊤ := by
    by_contra hc
    simp [Ideal.cmp, hc] at h
  refine EReal.coe_toReal (fun e => ?_) (fun e => ?_)
  · rw [e] at h'; simp at h'
  · rw [e] at h'; simp at h'

/-- The finiteness mask of an array. -/
def finite {s : Shape} (hb : S_.BroadcastsInDim s (![] : Fin 0 → Fin s.rank)) (x : FVec Ideal s .f32) : IVec s 1 :=
  cmpf .olt (Host.absf x) (broadcastInDim s ![] hb (constant S_ .f32 0x7F800000#32))

theorem finite_apply {s : Shape} (hb : S_.BroadcastsInDim s (![] : Fin 0 → Fin s.rank)) (x : FVec Ideal s .f32) (h : finite hb x = fun _ => 1#1) (i : s.Idx) :
    (((x i : EReal).toReal : ℝ) : EReal) = x i := real_of_finite _ (congrFun h i)

/-- The mask that compares the products of a plane weight with their column exchange. -/
def exchange [Cert.Pre_separable.Facts] (w : FVec Ideal S1x1x1x3x3 .f32) : FVec Ideal S3x3x3x3 .f32 :=
  mulf (broadcastInDim S3x3x3x3 ![0, 1, 2, 3] Facts.bcast_S3x1x3x1_S3x3x3x3_0_1_2_3 (shapeCast S3x1x3x1 (shapeCast S3x3 w Facts.shapeCasts_S1x1x1x3x3_S3x3) Facts.shapeCasts_S3x3_S3x1x3x1))
    (broadcastInDim S3x3x3x3 ![0, 1, 2, 3] Facts.bcast_S1x3x1x3_S3x3x3x3_0_1_2_3 (shapeCast S1x3x1x3 (shapeCast S3x3 w Facts.shapeCasts_S1x1x1x3x3_S3x3) Facts.shapeCasts_S3x3_S1x3x1x3))
def rankMask [Cert.Pre_separable.Facts] (w : FVec Ideal S1x1x1x3x3 .f32) : IVec S3x3x3x3 1 :=
  cmpf .oeq (exchange w) (transpose S3x3x3x3 [0, 1, 3, 2] (exchange w) Facts.transposes_S3x3x3x3_S3x3x3x3_0_1_3_2)

theorem exchange_cp [Cert.Pre_separable.Facts] (w : Matrix (Fin 3) (Fin 3) ℝ) (i j k l : Fin 3) :
    exchange (cp w) (ValueIdx.ix4 i j k l) = ((w i k * w j l : ℝ) : EReal) := by
  have e : shapeCast S3x3 (cp w) Facts.shapeCasts_S1x1x1x3x3_S3x3 = cm w := Cert.KernelIdeal.HostFns.sq_cp w
  unfold exchange
  rw [e]
  pointwise [cm]
  exact (EReal.coe_mul _ _).symm

theorem rankMask_apply [Cert.Pre_separable.Facts] (w : Matrix (Fin 3) (Fin 3) ℝ) (h : rankMask (cp w) = fun _ => 1#1) (i j k l : Fin 3) :
    w i k * w j l = w i l * w j k := by
  have hm := congrFun h (ValueIdx.ix4 i j k l)
  have ht : transpose S3x3x3x3 [0, 1, 3, 2] (exchange (cp w)) Facts.transposes_S3x3x3x3_S3x3x3x3_0_1_3_2 (ValueIdx.ix4 i j k l) = exchange (cp w) (ValueIdx.ix4 i j l k) := by
    pointwise
    rfl
  change Ideal.cmp .oeq (exchange (cp w) (ValueIdx.ix4 i j k l)) (transpose S3x3x3x3 [0, 1, 3, 2] (exchange (cp w)) _ (ValueIdx.ix4 i j k l)) = 1#1 at hm
  rw [ht, exchange_cp, exchange_cp] at hm
  by_contra hc
  rw [← EReal.coe_eq_coe_iff] at hc
  have h0 : Ideal.cmp .oeq ((w i k * w j l : ℝ) : EReal) ((w i l * w j k : ℝ) : EReal) = 0#1 := by
    show BitVec.ofBool (decide _) = _
    rw [decide_eq_false hc]; rfl
  rw [h0] at hm
  exact absurd hm (by decide)

/-! ## The arguments as real arrays -/

theorem eq_c5 (x : FVec Ideal S1x1x64x256x256 .f32) (hb) (h : finite hb x = fun _ => 1#1) :
    x = c5 fun d p q => (x (ValueIdx.ix5 (0 : Fin 1) (0 : Fin 1) d p q) : EReal).toReal := by
  funext j
  obtain ⟨z, o, d, p, q, rfl⟩ : ∃ (z o : Fin 1) (d : Fin 64) (p q : Fin 256), j = ValueIdx.ix5 z o d p q := ⟨j 0, j 1, j 2, j 3, j 4, ValueIdx.eq_ix5 j⟩
  rw [Subsingleton.elim z 0, Subsingleton.elim o 0]
  exact (finite_apply hb x h _).symm

theorem eq_cd (x : FVec Ideal S1x1x3x1x1 .f32) (hb) (h : finite hb x = fun _ => 1#1) :
    x = cd fun k => (x (ValueIdx.ix5 (0 : Fin 1) (0 : Fin 1) k (0 : Fin 1) (0 : Fin 1)) : EReal).toReal := by
  funext j
  obtain ⟨z, o, k, y, u, rfl⟩ : ∃ (z o : Fin 1) (k : Fin 3) (y u : Fin 1), j = ValueIdx.ix5 z o k y u := ⟨j 0, j 1, j 2, j 3, j 4, ValueIdx.eq_ix5 j⟩
  rw [Subsingleton.elim z 0, Subsingleton.elim o 0, Subsingleton.elim y 0, Subsingleton.elim u 0]
  exact (finite_apply hb x h _).symm

theorem eq_cp (x : FVec Ideal S1x1x1x3x3 .f32) (hb) (h : finite hb x = fun _ => 1#1) :
    x = cp fun k l => (x (ValueIdx.ix5 (0 : Fin 1) (0 : Fin 1) (0 : Fin 1) k l) : EReal).toReal := by
  funext j
  obtain ⟨z, o, y, k, l, rfl⟩ : ∃ (z o y : Fin 1) (k l : Fin 3), j = ValueIdx.ix5 z o y k l := ⟨j 0, j 1, j 2, j 3, j 4, ValueIdx.eq_ix5 j⟩
  rw [Subsingleton.elim z 0, Subsingleton.elim o 0, Subsingleton.elim y 0]
  exact (finite_apply hb x h _).symm

/-- The exchange of columns that rank at most one allows. -/
def RankOne (w : Matrix (Fin 3) (Fin 3) ℝ) : Prop := ∀ i j k l, w i k * w j l = w i l * w j k

/-- A finite plane weight whose products exchange is a real matrix of rank at most one. -/
theorem eq_cp_rank [Cert.Pre_separable.Facts] (x : FVec Ideal S1x1x1x3x3 .f32) (hb) (h : finite hb x = fun _ => 1#1) (hr : rankMask x = fun _ => 1#1) :
    ∃ w, x = cp w ∧ RankOne w :=
  ⟨_, eq_cp x hb h, rankMask_apply _ ((congrArg rankMask (eq_cp x hb h)).symm.trans hr)⟩

open Idealize.ShloMosaic.TcCoe in
/-- Under the precondition the arguments are real arrays and the plane weights have rank at most one. -/
theorem reals [Cert.Pre_separable.Facts] (m : (ℓ : Loc Cert.KernelIdeal.nD Cert.KernelIdeal.τ Cert.KernelIdeal.sig) → Buf (Elt Ideal) ℓ)
    (h : Cert.Pre_KernelIdeal_separable m) (c : Dev Cert.KernelIdeal.nD) :
    ∃ (X : Fin 64 → Matrix (Fin 256) (Fin 256) ℝ) (w1 w2 w3 : Fin 3 → ℝ) (w4 w5 w6 w7 : Matrix (Fin 3) (Fin 3) ℝ),
      (m ((c : Thread Cert.KernelIdeal.nD Cert.KernelIdeal.τ).loc Cert.KernelIdeal.main_arg0) = c5 X
      ∧ m ((c : Thread Cert.KernelIdeal.nD Cert.KernelIdeal.τ).loc Cert.KernelIdeal.main_arg1) = cd w1
      ∧ m ((c : Thread Cert.KernelIdeal.nD Cert.KernelIdeal.τ).loc Cert.KernelIdeal.main_arg2) = cd w2
      ∧ m ((c : Thread Cert.KernelIdeal.nD Cert.KernelIdeal.τ).loc Cert.KernelIdeal.main_arg3) = cd w3
      ∧ m ((c : Thread Cert.KernelIdeal.nD Cert.KernelIdeal.τ).loc Cert.KernelIdeal.main_arg4) = cp w4
      ∧ m ((c : Thread Cert.KernelIdeal.nD Cert.KernelIdeal.τ).loc Cert.KernelIdeal.main_arg5) = cp w5
      ∧ m ((c : Thread Cert.KernelIdeal.nD Cert.KernelIdeal.τ).loc Cert.KernelIdeal.main_arg6) = cp w6
      ∧ m ((c : Thread Cert.KernelIdeal.nD Cert.KernelIdeal.τ).loc Cert.KernelIdeal.main_arg7) = cp w7)
      ∧ RankOne w4 ∧ RankOne w5 ∧ RankOne w6 ∧ RankOne w7 := by
  obtain ⟨h0, h1, h2, h3, h4, h5, h6, h7, h8, h9, h10, h11⟩ := h c
  obtain ⟨w4, e4, r4⟩ := eq_cp_rank _ Facts.bcast_S_S1x1x1x3x3 h4 h8
  obtain ⟨w5, e5, r5⟩ := eq_cp_rank _ Facts.bcast_S_S1x1x1x3x3 h5 h9
  obtain ⟨w6, e6, r6⟩ := eq_cp_rank _ Facts.bcast_S_S1x1x1x3x3 h6 h10
  obtain ⟨w7, e7, r7⟩ := eq_cp_rank _ Facts.bcast_S_S1x1x1x3x3 h7 h11
  exact ⟨_, _, _, _, w4, w5, w6, w7, ⟨eq_c5 _ Facts.bcast_S_S1x1x64x256x256 h0, eq_cd _ Facts.bcast_S_S1x1x3x1x1 h1,
    eq_cd _ Facts.bcast_S_S1x1x3x1x1 h2, eq_cd _ Facts.bcast_S_S1x1x3x1x1 h3, e4, e5, e6, e7⟩, r4, r5, r6, r7⟩

end Cert.Precondition

end
-- ==== Proof.RefValue.lean ====
module

public import proofs.«01_k».proof.Proof.Gen.ReferenceIdeal.Read
public import proofs.«01_k».proof.Proof.KernelValue
public import Idealize.ShloMosaic.Lib.KernelVsHost

/-! The reference's result over the reals: three depth convolutions, then four plane convolutions. -/

@[expose] public section

set_option maxRecDepth 16384
set_option maxHeartbeats 1000000

noncomputable section

namespace Cert.ReferenceIdeal.Value

open Idealize.ShloMosaic Cert.ReferenceIdeal Cert.ReferenceIdeal.Gen Cert.ReferenceIdeal.Read Cert.RealMath
open Cert.KernelIdeal.HostFns (cs cd cp)
open Cert.KernelIdeal.Value (c5)

section
variable {F : FTy → Type} [FloatOps F]

/-- The zero that fills the paddings. -/
def fill : FVec F S_ .f32 := sitofp .f32 (constantI S_ 32 0#32)

/-- The zero array that the taps add up from. -/
def zeros : FVec F S1x1x64x256x256 .f32 := broadcastInDim S1x1x64x256x256 ![] bcast_S_S1x1x64x256x256 (constant S_ .f32 0x00000000#32)

/-- One tap: the sum so far plus a weight times a shifted array. -/
def tap (b : FVec F S_ .f32) (x acc : FVec F S1x1x64x256x256 .f32) : FVec F S1x1x64x256x256 .f32 :=
  addf acc (mulf (broadcastInDim S1x1x64x256x256 ![] bcast_S_S1x1x64x256x256 b) x)

theorem depth_weight_slices : ∀ k : Fin 3, S1x1x3x1x1.Slices ![0, 0, k.val, 0, 0] S1x1x1x1x1 := by decide
theorem depth_slices : ∀ k : Fin 3, S1x1x66x256x256.Slices ![0, 0, k.val, 0, 0] S1x1x64x256x256 := by decide
theorem plane_weight_slices : ∀ k l : Fin 3, S1x1x1x3x3.Slices ![0, 0, 0, k.val, l.val] S1x1x1x1x1 := by decide
theorem plane_slices : ∀ k l : Fin 3, S1x1x64x258x258.Slices ![0, 0, 0, k.val, l.val] S1x1x64x256x256 := by decide

/-- A depth weight, and the padded array shifted along the depth. -/
def depthWeight (w : FVec F S1x1x3x1x1 .f32) (k : Fin 3) : FVec F S_ .f32 :=
  shapeCast S_ (extractStridedSlice S1x1x1x1x1 ![0, 0, k.val, 0, 0] w (depth_weight_slices k)) shapeCasts_S1x1x1x1x1_S_
def depthShift (x : FVec F S1x1x64x256x256 .f32) (k : Fin 3) : FVec F S1x1x64x256x256 .f32 :=
  extractStridedSlice S1x1x64x256x256 ![0, 0, k.val, 0, 0]
    (pad S1x1x66x256x256 ![0, 0, 1, 0, 0] ![0, 0, 1, 0, 0] ![0, 0, 0, 0, 0] x fill pads_S1x1x64x256x256_S1x1x66x256x256_000_000_110_000_000 h_S_)
    (depth_slices k)

/-- A plane weight, and the padded array shifted in the plane. -/
def planeWeight (w : FVec F S1x1x1x3x3 .f32) (k l : Fin 3) : FVec F S_ .f32 :=
  shapeCast S_ (extractStridedSlice S1x1x1x1x1 ![0, 0, 0, k.val, l.val] w (plane_weight_slices k l)) shapeCasts_S1x1x1x1x1_S_
def planeShift (x : FVec F S1x1x64x256x256 .f32) (k l : Fin 3) : FVec F S1x1x64x256x256 .f32 :=
  extractStridedSlice S1x1x64x256x256 ![0, 0, 0, k.val, l.val]
    (pad S1x1x64x258x258 ![0, 0, 0, 1, 1] ![0, 0, 0, 1, 1] ![0, 0, 0, 0, 0] x fill pads_S1x1x64x256x256_S1x1x64x258x258_000_000_000_110_110 h_S_)
    (plane_slices k l)

/-- The reference's two convolutions. -/
def depthConv (w : FVec F S1x1x3x1x1 .f32) (x : FVec F S1x1x64x256x256 .f32) : FVec F S1x1x64x256x256 .f32 :=
  tap (depthWeight w 2) (depthShift x 2) <| tap (depthWeight w 1) (depthShift x 1) <| tap (depthWeight w 0) (depthShift x 0) zeros
def planeConv (w : FVec F S1x1x1x3x3 .f32) (x : FVec F S1x1x64x256x256 .f32) : FVec F S1x1x64x256x256 .f32 :=
  tap (planeWeight w 2 2) (planeShift x 2 2) <| tap (planeWeight w 2 1) (planeShift x 2 1) <| tap (planeWeight w 2 0) (planeShift x 2 0) <|
  tap (planeWeight w 1 2) (planeShift x 1 2) <| tap (planeWeight w 1 1) (planeShift x 1 1) <| tap (planeWeight w 1 0) (planeShift x 1 0) <|
  tap (planeWeight w 0 2) (planeShift x 0 2) <| tap (planeWeight w 0 1) (planeShift x 0 1) <| tap (planeWeight w 0 0) (planeShift x 0 0) zeros

/-- The reference's stages are these convolutions. -/
theorem stage1 (x0 : FVec F S1x1x64x256x256 .f32) (x1 : FVec F S1x1x3x1x1 .f32) : val_main_v19 x0 x1 = depthConv x1 x0 := rfl
theorem stage2 (x0 : FVec F S1x1x64x256x256 .f32) (x1 x2 : FVec F S1x1x3x1x1 .f32) :
    val_main_v39 x0 x1 x2 = depthConv x2 (val_main_v19 x0 x1) := rfl
theorem stage3 (x0 : FVec F S1x1x64x256x256 .f32) (x1 x2 x3 : FVec F S1x1x3x1x1 .f32) :
    val_main_v59 x0 x1 x2 x3 = depthConv x3 (val_main_v39 x0 x1 x2) := rfl
theorem stage4 (x0 : FVec F S1x1x64x256x256 .f32) (x1 x2 x3 : FVec F S1x1x3x1x1 .f32) (x4 : FVec F S1x1x1x3x3 .f32) :
    val_main_v115 x0 x1 x2 x3 x4 = planeConv x4 (val_main_v59 x0 x1 x2 x3) := rfl
theorem stage5 (x0 : FVec F S1x1x64x256x256 .f32) (x1 x2 x3 : FVec F S1x1x3x1x1 .f32) (x4 x5 : FVec F S1x1x1x3x3 .f32) :
    val_main_v171 x0 x1 x2 x3 x4 x5 = planeConv x5 (val_main_v115 x0 x1 x2 x3 x4) := rfl
theorem stage6 (x0 : FVec F S1x1x64x256x256 .f32) (x1 x2 x3 : FVec F S1x1x3x1x1 .f32) (x4 x5 x6 : FVec F S1x1x1x3x3 .f32) :
    val_main_v227 x0 x1 x2 x3 x4 x5 x6 = planeConv x6 (val_main_v171 x0 x1 x2 x3 x4 x5) := rfl
theorem stage7 (x0 : FVec F S1x1x64x256x256 .f32) (x1 x2 x3 : FVec F S1x1x3x1x1 .f32) (x4 x5 x6 x7 : FVec F S1x1x1x3x3 .f32) :
    val_main_v283 x0 x1 x2 x3 x4 x5 x6 x7 = planeConv x7 (val_main_v227 x0 x1 x2 x3 x4 x5 x6) := rfl
end

/-! ## Over the reals -/

theorem fill_eq (j : S_.Idx) : fill (F := Ideal) j = ((0 : ℝ) : EReal) := by
  show ((((0#32 : BitVec 32).toInt : ℝ)) : EReal) = _
  simp

theorem zeros_eq : zeros (F := Ideal) = c5 fun _ => 0 := by
  funext j
  exact Ideal.ofBits_zero_f32

theorem tap_c5 (A S : Fin 64 → Matrix (Fin 256) (Fin 256) ℝ) (β : ℝ) : tap (F := Ideal) (cs β) (c5 S) (c5 A) = c5 fun d => A d + β • S d := by
  funext j
  show ((A (j 2) (j 3) (j 4) : ℝ) : EReal) + ((β : ℝ) : EReal) * ((S (j 2) (j 3) (j 4) : ℝ) : EReal) = ((A (j 2) (j 3) (j 4) + β * S (j 2) (j 3) (j 4) : ℝ) : EReal)
  rw [EReal.coe_add, EReal.coe_mul]

theorem depthWeight_cd (w : Fin 3 → ℝ) (k : Fin 3) : depthWeight (F := Ideal) (cd w) k = cs (w k) := by
  funext j
  obtain rfl : j = Shape.Idx.first h_S_ := funext fun a => a.elim0
  unfold depthWeight
  refine (shapeCast_apply _ _ _ (ValueIdx.ix5 (0 : Fin 1) (0 : Fin 1) (0 : Fin 1) (0 : Fin 1) (0 : Fin 1)) (by decide)).trans ?_
  refine (extractStridedSlice_apply _ _ _ _ (ValueIdx.ix5 (0 : Fin 1) (0 : Fin 1) k (0 : Fin 1) (0 : Fin 1)) (fun a => ?_)).trans rfl
  fin_cases a <;> rfl

theorem planeWeight_cp (w : Matrix (Fin 3) (Fin 3) ℝ) (k l : Fin 3) : planeWeight (F := Ideal) (cp w) k l = cs (w k l) := by
  funext j
  obtain rfl : j = Shape.Idx.first h_S_ := funext fun a => a.elim0
  unfold planeWeight
  refine (shapeCast_apply _ _ _ (ValueIdx.ix5 (0 : Fin 1) (0 : Fin 1) (0 : Fin 1) (0 : Fin 1) (0 : Fin 1)) (by decide)).trans ?_
  refine (extractStridedSlice_apply _ _ _ _ (ValueIdx.ix5 (0 : Fin 1) (0 : Fin 1) (0 : Fin 1) k l) (fun a => ?_)).trans rfl
  fin_cases a <;> rfl

/-- The zero-padded planes shifted along the depth. -/
def depthShifted (X : Fin 64 → Matrix (Fin 256) (Fin 256) ℝ) (k : ℕ) : Fin 64 → Matrix (Fin 256) (Fin 256) ℝ :=
  fun d p q => shifted (fun e => X e p q) (d.val + k)

/-- The zero-padded planes shifted in the plane. -/
def planeShifted (X : Fin 64 → Matrix (Fin 256) (Fin 256) ℝ) (k l : ℕ) : Fin 64 → Matrix (Fin 256) (Fin 256) ℝ :=
  fun d i j => shifted (fun p => shifted (fun q => X d p q) (j.val + l)) (i.val + k)

/-- The planes convolved along the depth. -/
def depthConved (w : Fin 3 → ℝ) (X : Fin 64 → Matrix (Fin 256) (Fin 256) ℝ) : Fin 64 → Matrix (Fin 256) (Fin 256) ℝ :=
  fun d p q => conv1 w (fun e => X e p q) d

/-- A padded array shifted along the depth. -/
theorem depthShift_c5 (X : Fin 64 → Matrix (Fin 256) (Fin 256) ℝ) (k : Fin 3) :
    depthShift (F := Ideal) (c5 X) k = c5 (depthShifted X k.val) := by
  funext j
  obtain ⟨z, o, d, p, q, rfl⟩ : ∃ (z o : Fin 1) (d : Fin 64) (p q : Fin 256), j = ValueIdx.ix5 z o d p q := ⟨j 0, j 1, j 2, j 3, j 4, ValueIdx.eq_ix5 j⟩
  have hd := d.isLt
  have hk := k.isLt
  unfold depthShift
  refine (extractStridedSlice_apply _ _ _ _ (ValueIdx.ix5 z o (⟨d.val + k.val, by omega⟩ : Fin 66) p q) (fun a => ?_)).trans ?_
  · fin_cases a
    · show z.val = 0 + z.val; omega
    · show o.val = 0 + o.val; omega
    · show d.val + k.val = k.val + d.val; omega
    · show p.val = 0 + p.val; omega
    · show q.val = 0 + q.val; omega
  · show _ = ((shifted (fun e => X e p q) (d.val + k.val) : ℝ) : EReal)
    unfold shifted
    split_ifs with h
    · refine (pad_apply_of_inside _ _ _ _ _ _ _ _ (ValueIdx.ix5 z o (⟨d.val + k.val - 1, by omega⟩ : Fin 64) p q) (fun a => ?_)).trans rfl
      fin_cases a
      · show z.val = 0 + z.val * (0 + 1); omega
      · show o.val = 0 + o.val * (0 + 1); omega
      · show d.val + k.val = 1 + (d.val + k.val - 1) * (0 + 1); omega
      · show p.val = 0 + p.val * (0 + 1); omega
      · show q.val = 0 + q.val * (0 + 1); omega
    · refine (pad_apply_of_not_inside _ _ _ _ _ _ _ _ 2 ?_).trans (fill_eq _)
      show ¬(1 ≤ d.val + k.val ∧ (d.val + k.val - 1) % (0 + 1) = 0 ∧ (d.val + k.val - 1) / (0 + 1) < 64)
      omega

/-- A padded array shifted in the plane. -/
theorem planeShift_c5 (X : Fin 64 → Matrix (Fin 256) (Fin 256) ℝ) (k l : Fin 3) :
    planeShift (F := Ideal) (c5 X) k l = c5 (planeShifted X k.val l.val) := by
  funext j
  obtain ⟨z, o, d, p, q, rfl⟩ : ∃ (z o : Fin 1) (d : Fin 64) (p q : Fin 256), j = ValueIdx.ix5 z o d p q := ⟨j 0, j 1, j 2, j 3, j 4, ValueIdx.eq_ix5 j⟩
  have hp := p.isLt
  have hq := q.isLt
  have hk := k.isLt
  have hl := l.isLt
  unfold planeShift
  refine (extractStridedSlice_apply _ _ _ _ (ValueIdx.ix5 z o d (⟨p.val + k.val, by omega⟩ : Fin 258) (⟨q.val + l.val, by omega⟩ : Fin 258)) (fun a => ?_)).trans ?_
  · fin_cases a
    · show z.val = 0 + z.val; omega
    · show o.val = 0 + o.val; omega
    · show d.val = 0 + d.val; omega
    · show p.val + k.val = k.val + p.val; omega
    · show q.val + l.val = l.val + q.val; omega
  · show _ = ((shifted (fun p => shifted (fun q => X d p q) (q.val + l.val)) (p.val + k.val) : ℝ) : EReal)
    unfold shifted
    split_ifs with h h'
    · refine (pad_apply_of_inside _ _ _ _ _ _ _ _ (ValueIdx.ix5 z o d (⟨p.val + k.val - 1, by omega⟩ : Fin 256) (⟨q.val + l.val - 1, by omega⟩ : Fin 256)) (fun a => ?_)).trans rfl
      fin_cases a
      · show z.val = 0 + z.val * (0 + 1); omega
      · show o.val = 0 + o.val * (0 + 1); omega
      · show d.val = 0 + d.val * (0 + 1); omega
      · show p.val + k.val = 1 + (p.val + k.val - 1) * (0 + 1); omega
      · show q.val + l.val = 1 + (q.val + l.val - 1) * (0 + 1); omega
    · refine (pad_apply_of_not_inside _ _ _ _ _ _ _ _ 4 ?_).trans (fill_eq _)
      show ¬(1 ≤ q.val + l.val ∧ (q.val + l.val - 1) % (0 + 1) = 0 ∧ (q.val + l.val - 1) / (0 + 1) < 256)
      omega
    · refine (pad_apply_of_not_inside _ _ _ _ _ _ _ _ 3 ?_).trans (fill_eq _)
      show ¬(1 ≤ p.val + k.val ∧ (p.val + k.val - 1) % (0 + 1) = 0 ∧ (p.val + k.val - 1) / (0 + 1) < 256)
      omega

/-- A depth convolution of real planes. -/
theorem depthConv_c5 (w : Fin 3 → ℝ) (X : Fin 64 → Matrix (Fin 256) (Fin 256) ℝ) :
    depthConv (F := Ideal) (cd w) (c5 X) = c5 (depthConved w X) := by
  unfold depthConv
  simp only [depthWeight_cd, depthShift_c5, zeros_eq, tap_c5]
  congr 1
  funext d p q
  simp only [depthConved, depthShifted, conv1, Matrix.add_apply, Matrix.smul_apply, Matrix.zero_apply, smul_eq_mul, zero_add]
  rfl

/-- A plane convolution of real planes. -/
theorem planeConv_c5 (w : Matrix (Fin 3) (Fin 3) ℝ) (X : Fin 64 → Matrix (Fin 256) (Fin 256) ℝ) :
    planeConv (F := Ideal) (cp w) (c5 X) = c5 fun d => conv2 w (X d) := by
  unfold planeConv
  simp only [planeWeight_cp, planeShift_c5, zeros_eq, tap_c5]
  congr 1
  funext d p q
  simp only [planeShifted, conv2, Fin.sum_univ_three, Matrix.add_apply, Matrix.smul_apply, Matrix.zero_apply, smul_eq_mul, zero_add, ← add_assoc]

/-- The whole reference on real arrays. -/
theorem reference_real (X : Fin 64 → Matrix (Fin 256) (Fin 256) ℝ) (w1 w2 w3 : Fin 3 → ℝ) (w4 w5 w6 w7 : Matrix (Fin 3) (Fin 3) ℝ) :
    val_main_v283 (F := Ideal) (c5 X) (cd w1) (cd w2) (cd w3) (cp w4) (cp w5) (cp w6) (cp w7)
      = c5 fun d => conv2 w7 (conv2 w6 (conv2 w5 (conv2 w4 fun p q => conv1 w3 (conv1 w2 (conv1 w1 fun e => X e p q)) d))) := by
  rw [stage7, stage6, stage5, stage4, stage3, stage2, stage1, depthConv_c5, depthConv_c5, depthConv_c5, planeConv_c5, planeConv_c5, planeConv_c5, planeConv_c5]
  rfl

end Cert.ReferenceIdeal.Value

end
-- ==== Proof.Equation.lean ====
module

public import proofs.«01_k».proof.Proof.Precondition
public import proofs.«01_k».proof.Proof.RefValue

/-! The kernel's result over the reals is the chain of convolutions, hence the reference's result. -/

@[expose] public section

set_option maxRecDepth 16384
set_option maxHeartbeats 1000000

noncomputable section

namespace Cert.KernelIdeal.Value

open Idealize.ShloMosaic Idealize.ShloMosaic.TcCoe Cert.KernelIdeal Cert.KernelIdeal.Gen Cert.RealMath
open Cert.KernelIdeal.HostFns Cert.KernelIdeal.HostRead Cert.KernelIdeal.Block Cert.Precondition

/-- The three depth convolutions followed by the four plane convolutions. -/
def chain (X : Fin 64 → Matrix (Fin 256) (Fin 256) ℝ) (w1 w2 w3 : Fin 3 → ℝ) (w4 w5 w6 w7 : Matrix (Fin 3) (Fin 3) ℝ)
    (d : Fin 64) : Matrix (Fin 256) (Fin 256) ℝ :=
  conv2 w7 (conv2 w6 (conv2 w5 (conv2 w4 fun p q => conv1 w3 (conv1 w2 (conv1 w1 fun e => X e p q)) d)))

/-- With plane weights that are products, the chain is a left matrix times the depth product times a right matrix. -/
theorem chain_eq (X : Fin 64 → Matrix (Fin 256) (Fin 256) ℝ) (w1 w2 w3 : Fin 3 → ℝ) (w4 w5 w6 w7 : Matrix (Fin 3) (Fin 3) ℝ)
    (u4 v4 u5 v5 u6 v6 u7 v7 : Fin 3 → ℝ) (h4 : ∀ i j, w4 i j = u4 i * v4 j) (h5 : ∀ i j, w5 i j = u5 i * v5 j)
    (h6 : ∀ i j, w6 i j = u6 i * v6 j) (h7 : ∀ i j, w7 i j = u7 i * v7 j) (d : Fin 64) :
    (tri 256 u7 * (tri 256 u6 * (tri 256 u5 * tri 256 u4))) * depthPlane (depth 64 w1 w2 w3) X d
        * ((((tri 256 v4).transpose * (tri 256 v5).transpose) * (tri 256 v6).transpose) * (tri 256 v7).transpose)
      = chain X w1 w2 w3 w4 w5 w6 w7 d := by
  have hz : (fun p q => conv1 w3 (conv1 w2 (conv1 w1 fun e => X e p q)) d) = depthPlane (depth 64 w1 w2 w3) X d := by
    funext p q
    exact (congrFun (depth_mulVec w1 w2 w3 fun e => X e p q) d).symm
  unfold chain
  rw [hz, conv2_eq w4 u4 v4 h4, conv2_eq w5 u5 v5 h5, conv2_eq w6 u6 v6 h6, conv2_eq w7 u7 v7 h7]
  simp only [Matrix.mul_assoc]

/-- The left matrix of four plane weights that factor. -/
theorem leftMat_cp (w4 w5 w6 w7 : Matrix (Fin 3) (Fin 3) ℝ) (u4 u5 u6 u7 : Fin 3 → ℝ) (h4 : facU (F := Ideal) (cp w4) = cv u4)
    (h5 : facU (F := Ideal) (cp w5) = cv u5) (h6 : facU (F := Ideal) (cp w6) = cv u6) (h7 : facU (F := Ideal) (cp w7) = cv u7) :
    leftMat (F := Ideal) (cp w4) (cp w5) (cp w6) (cp w7) = cm (tri 256 u7 * (tri 256 u6 * (tri 256 u5 * tri 256 u4))) := by
  unfold leftMat
  rw [rowsMat_cp w4 u4 h4, rowsMat_cp w5 u5 h5, rowsMat_cp w6 u6 h6, rowsMat_cp w7 u7 h7, mul256_cm, mul256_cm, mul256_cm]

/-- The right matrix of four plane weights that factor. -/
theorem rightMat_cp (w4 w5 w6 w7 : Matrix (Fin 3) (Fin 3) ℝ) (v4 v5 v6 v7 : Fin 3 → ℝ) (h4 : facV (F := Ideal) (cp w4) = cv v4)
    (h5 : facV (F := Ideal) (cp w5) = cv v5) (h6 : facV (F := Ideal) (cp w6) = cv v6) (h7 : facV (F := Ideal) (cp w7) = cv v7) :
    rightMat (F := Ideal) (cp w4) (cp w5) (cp w6) (cp w7)
      = cm ((((tri 256 v4).transpose * (tri 256 v5).transpose) * (tri 256 v6).transpose) * (tri 256 v7).transpose) := by
  unfold rightMat
  rw [colsMat_cp w4 v4 h4, colsMat_cp w5 v5 h5, colsMat_cp w6 v6 h6, colsMat_cp w7 v7 h7, mul256_cm, mul256_cm, mul256_cm]

/-- The kernel's result from real arguments whose plane weights have rank at most one. -/
theorem kernel_real (m : (ℓ : Loc nD τ sig) → Buf (Elt Ideal) ℓ) (c : Dev nD)
    (X : Fin 64 → Matrix (Fin 256) (Fin 256) ℝ) (w1 w2 w3 : Fin 3 → ℝ) (w4 w5 w6 w7 : Matrix (Fin 3) (Fin 3) ℝ)
    (h0 : arg m c main_arg0 = c5 X) (h1 : arg m c main_arg1 = cd w1) (h2 : arg m c main_arg2 = cd w2) (h3 : arg m c main_arg3 = cd w3)
    (h4 : arg m c main_arg4 = cp w4) (h5 : arg m c main_arg5 = cp w5) (h6 : arg m c main_arg6 = cp w6) (h7 : arg m c main_arg7 = cp w7)
    (r4 : RankOne w4) (r5 : RankOne w5) (r6 : RankOne w6) (r7 : RankOne w7) :
    Pipeline.afterTail₀ cfgs (dats m) 0 (V0 m) [hostOps1] c main_v0 = c5 (chain X w1 w2 w3 w4 w5 w6 w7) := by
  obtain ⟨u4, v4, e4, a4, b4⟩ := factors_cp w4 r4
  obtain ⟨u5, v5, e5, a5, b5⟩ := factors_cp w5 r5
  obtain ⟨u6, v6, e6, a6, b6⟩ := factors_cp w6 r6
  obtain ⟨u7, v7, e7, a7, b7⟩ := factors_cp w7 r7
  have hx : V m c main_call0_v0 = c3 X := by
    refine (V_input m c).trans ?_
    rw [h0]; exact cast_c5 X
  have hb : V m c main_call0_v132 = band (cm (depth 64 w1 w2 w3)) := by
    refine (V_band m c).trans ?_
    rw [h1, h2, h3]; exact congrArg band (depthMat_cd w1 w2 w3)
  have hl := V_left m c
  rw [h4, h5, h6, h7] at hl
  have hr := V_right m c
  rw [h4, h5, h6, h7] at hr
  refine (tail_read m c).trans ?_
  refine (congrArg (fun y => shapeCast S1x1x64x256x256 y shapeCasts_S16384x256_S1x1x64x256x256)
    (region_array m c (depth 64 w1 w2 w3) (depth_banded 64 w1 w2 w3) X _ _ hb hx
      (hl.trans (leftMat_cp w4 w5 w6 w7 u4 u5 u6 u7 a4 a5 a6 a7)) (hr.trans (rightMat_cp w4 w5 w6 w7 v4 v5 v6 v7 b4 b5 b6 b7)))).trans ?_
  refine (cast_lines _).trans (congrArg c5 (funext fun d => ?_))
  exact chain_eq X w1 w2 w3 w4 w5 w6 w7 u4 v4 u5 v5 u6 v6 u7 v7 e4 e5 e6 e7 d

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Equation

@[expose] public section

noncomputable section

namespace Cert.Proof

open Idealize.ShloMosaic Idealize.SL.Sem Cert.Kernel
open Cert.KernelIdeal.Value (c5 chain)

/-- The reference's program runs, leaves its arguments alone and uses no semaphore. -/
theorem frame_ReferenceIdeal : quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- Under the precondition the kernel's idealization and the reference's end with the same result. -/
theorem algebraic : algebraic_KernelIdeal_ReferenceIdeal_pre_separable (hKernelIdeal := Cert.KernelIdeal.Gen.facts)
    (hReferenceIdeal := Cert.ReferenceIdeal.Gen.facts) (hPre_separable := Cert.Precondition.shapes) := by
  letI := Cert.Precondition.shapes
  intro m g m' g' hpre hag
  choose X w1 w2 w3 w4 w5 w6 w7 hm r4 r5 r6 r7 using fun c => Cert.Precondition.reals m hpre c
  refine ⟨fun c => c5 (chain (X c) (w1 c) (w2 c) (w3 c) (w4 c) (w5 c) (w6 c) (w7 c)), ?_, ?_⟩
  · refine (θ_run _ _ _).mono (fun r h c => ⟨?_, ?_⟩) (Cert.KernelIdeal.Gen.run_main (F := Ideal) m g)
    · obtain ⟨h0, h1, h2, h3, h4, h5, h6, h7⟩ := hm c
      exact (Pipeline.FramePost.rest_eq h c Cert.KernelIdeal.main_v0 (by decide)).trans
        (Cert.KernelIdeal.Value.kernel_real m c _ _ _ _ _ _ _ _ h0 h1 h2 h3 h4 h5 h6 h7 (r4 c) (r5 c) (r6 c) (r7 c))
    · exact ⟨(Pipeline.FramePost.rest_eq h c Cert.KernelIdeal.main_arg0 (by decide)).trans (Cert.KernelIdeal.Gen.W_main_arg0 m _ c),
        (Pipeline.FramePost.rest_eq h c Cert.KernelIdeal.main_arg1 (by decide)).trans (Cert.KernelIdeal.Gen.W_main_arg1 m _ c),
        (Pipeline.FramePost.rest_eq h c Cert.KernelIdeal.main_arg2 (by decide)).trans (Cert.KernelIdeal.Gen.W_main_arg2 m _ c),
        (Pipeline.FramePost.rest_eq h c Cert.KernelIdeal.main_arg3 (by decide)).trans (Cert.KernelIdeal.Gen.W_main_arg3 m _ c),
        (Pipeline.FramePost.rest_eq h c Cert.KernelIdeal.main_arg4 (by decide)).trans (Cert.KernelIdeal.Gen.W_main_arg4 m _ c),
        (Pipeline.FramePost.rest_eq h c Cert.KernelIdeal.main_arg5 (by decide)).trans (Cert.KernelIdeal.Gen.W_main_arg5 m _ c),
        (Pipeline.FramePost.rest_eq h c Cert.KernelIdeal.main_arg6 (by decide)).trans (Cert.KernelIdeal.Gen.W_main_arg6 m _ c),
        (Pipeline.FramePost.rest_eq h c Cert.KernelIdeal.main_arg7 (by decide)).trans (Cert.KernelIdeal.Gen.W_main_arg7 m _ c)⟩
  · refine (θ_run _ _ _).mono (fun r h c => ⟨?_, (h c).2⟩) (Cert.ReferenceIdeal.Value.run (F := Ideal) m' g')
    obtain ⟨h0, h1, h2, h3, h4, h5, h6, h7⟩ := hm c
    obtain ⟨k0, k1, k2, k3, k4, k5, k6, k7⟩ := hag c
    refine ((h c).1.trans (Cert.ReferenceIdeal.Read.val_main_v283_eq (StableHlo.launchContents m' c))).trans ?_
    refine Eq.trans ?_ (Cert.ReferenceIdeal.Value.reference_real (X c) (w1 c) (w2 c) (w3 c) (w4 c) (w5 c) (w6 c) (w7 c))
    rw [← h0, ← h1, ← h2, ← h3, ← h4, ← h5, ← h6, ← h7, ← k0, ← k1, ← k2, ← k3, ← k4, ← k5, ← k6, ← k7]

theorem claim : Cert.Claim := ⟨Cert.Kernel.Gen.facts, Cert.KernelIdeal.Gen.facts, Cert.ReferenceIdeal.Gen.facts, Cert.Precondition.shapes,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  trivial,
  algebraic⟩

end Cert.Proof

end
